-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_valid_experts_KernelIdeal [hPre_valid_experts_KernelIdeal : Cert.Pre_valid_experts_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_valid_experts_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_valid_experts_ReferenceIdeal [hPre_valid_experts_ReferenceIdeal : Cert.Pre_valid_experts_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_valid_experts_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_valid_experts_KernelIdeal [hKernelIdeal : Cert.KernelIdeal.Facts] [hPre_valid_experts_KernelIdeal : Cert.Pre_valid_experts_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_valid_experts_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_valid_experts_ReferenceIdeal [hReferenceIdeal : Cert.ReferenceIdeal.Facts] [hPre_valid_experts_ReferenceIdeal : Cert.Pre_valid_experts_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_valid_experts_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_valid_experts_KernelIdeal [hKernelIdeal : Cert.KernelIdeal.Facts] [hReferenceIdeal : Cert.ReferenceIdeal.Facts] [hPre_valid_experts_KernelIdeal : Cert.Pre_valid_experts_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_valid_experts_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![8, 512, 1024]⟩ ⟨3, ![64, 512, 1024]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 1024]⟩ ⟨2, ![2048, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v68) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_valid_experts_KernelIdeal : Cert.Pre_valid_experts_KernelIdeal.Facts) (hPre_valid_experts_ReferenceIdeal : Cert.Pre_valid_experts_ReferenceIdeal.Facts),
    quiescent_Kernel (hKernel := hKernel)
    ∧ quiescent_KernelIdeal (hKernelIdeal := hKernelIdeal)
    ∧ quiescent_KernelIdeal_pre_valid_experts_KernelIdeal (hKernelIdeal := hKernelIdeal) (hPre_valid_experts_KernelIdeal := hPre_valid_experts_KernelIdeal)
    ∧ quiescent_ReferenceIdeal (hReferenceIdeal := hReferenceIdeal)
    ∧ quiescent_ReferenceIdeal_pre_valid_experts_ReferenceIdeal (hReferenceIdeal := hReferenceIdeal) (hPre_valid_experts_ReferenceIdeal := hPre_valid_experts_ReferenceIdeal)
    ∧ preserves_Kernel_KernelIdeal
    ∧ algebraic_KernelIdeal_ReferenceIdeal_pre_valid_experts_KernelIdeal (hKernelIdeal := hKernelIdeal) (hReferenceIdeal := hReferenceIdeal) (hPre_valid_experts_KernelIdeal := hPre_valid_experts_KernelIdeal)
-- ==== Pre_valid_experts_KernelIdeal.lean ====
abbrev S2048x512 : Shape := ⟨2, ![2048, 512]⟩
abbrev S512x64 : Shape := ⟨2, ![512, 64]⟩
abbrev S2048x2 : Shape := ⟨2, ![2048, 2]⟩
abbrev S8x512x1024 : Shape := ⟨3, ![8, 512, 1024]⟩
abbrev S_ : Shape := ⟨0, ![]⟩

class Facts : Prop where
  bcast_S_S2048x2 : S_.BroadcastsInDim S2048x2 (![] : Fin 0 → Fin S2048x2.rank)
  reducesTo_S2048x2_S_d0_1 : S2048x2.ReducesTo [0, 1] S_
  h_S_ : 0 < S_.numel

variable [Facts]

def fn {F : FTy → Type} [FloatOps F] (main_arg0 : FVec F S2048x512 .f32) (main_arg1 : FVec F S512x64 .f32) (main_arg2 : IVec S2048x2 32) (main_arg3 : FVec F S8x512x1024 .f32) : IVec S_ 1 :=
  let main_c : IVec S_ 32 := constantI S_ 32 0#32
  let main_v0 : IVec S2048x2 32 := broadcastInDim S2048x2 ![] bcast_S_S2048x2 main_c
  let main_v1 : IVec S2048x2 1 := cmpi .sge main_arg2 main_v0
  let main_c_0 : IVec S_ 32 := constantI S_ 32 64#32
  let main_v2 : IVec S2048x2 32 := broadcastInDim S2048x2 ![] bcast_S_S2048x2 main_c_0
  let main_v3 : IVec S2048x2 1 := cmpi .slt main_arg2 main_v2
  let main_v4 : IVec S2048x2 1 := andi main_v1 main_v3
  let main_c_1 : IVec S_ 1 := constantI S_ 1 1#1
  let main_v5 : IVec S_ 1 := (fun x v => Host.reduce IntOp.andi x v reducesTo_S2048x2_S_d0_1 h_S_) main_v4 main_c_1
  main_v5
-- ==== Pre_valid_experts_ReferenceIdeal.lean ====
abbrev S2048x512 : Shape := ⟨2, ![2048, 512]⟩
abbrev S512x64 : Shape := ⟨2, ![512, 64]⟩
abbrev S2048x2 : Shape := ⟨2, ![2048, 2]⟩
abbrev S64x512x1024 : Shape := ⟨3, ![64, 512, 1024]⟩
abbrev S_ : Shape := ⟨0, ![]⟩

class Facts : Prop where
  bcast_S_S2048x2 : S_.BroadcastsInDim S2048x2 (![] : Fin 0 → Fin S2048x2.rank)
  reducesTo_S2048x2_S_d0_1 : S2048x2.ReducesTo [0, 1] S_
  h_S_ : 0 < S_.numel

variable [Facts]

def fn {F : FTy → Type} [FloatOps F] (main_arg0 : FVec F S2048x512 .f32) (main_arg1 : FVec F S512x64 .f32) (main_arg2 : IVec S2048x2 32) (main_arg3 : FVec F S64x512x1024 .f32) : IVec S_ 1 :=
  let main_c : IVec S_ 32 := constantI S_ 32 0#32
  let main_v0 : IVec S2048x2 32 := broadcastInDim S2048x2 ![] bcast_S_S2048x2 main_c
  let main_v1 : IVec S2048x2 1 := cmpi .sge main_arg2 main_v0
  let main_c_0 : IVec S_ 32 := constantI S_ 32 64#32
  let main_v2 : IVec S2048x2 32 := broadcastInDim S2048x2 ![] bcast_S_S2048x2 main_c_0
  let main_v3 : IVec S2048x2 1 := cmpi .slt main_arg2 main_v2
  let main_v4 : IVec S2048x2 1 := andi main_v1 main_v3
  let main_c_1 : IVec S_ 1 := constantI S_ 1 1#1
  let main_v5 : IVec S_ 1 := (fun x v => Host.reduce IntOp.andi x v reducesTo_S2048x2_S_d0_1 h_S_) main_v4 main_c_1
  main_v5
-- ==== Kernel.lean ====
abbrev S2048x512 : Shape := ⟨2, ![2048, 512]⟩
abbrev S512x64 : Shape := ⟨2, ![512, 64]⟩
abbrev S2048x2 : Shape := ⟨2, ![2048, 2]⟩
abbrev S8x512x1024 : Shape := ⟨3, ![8, 512, 1024]⟩
abbrev S256x1024 : Shape := ⟨2, ![256, 1024]⟩
abbrev S2048x8 : Shape := ⟨2, ![2048, 8]⟩
abbrev S7x256x1024 : Shape := ⟨3, ![7, 256, 1024]⟩
abbrev S7 : Shape := ⟨1, ![7]⟩
abbrev S_ : Shape := ⟨0, ![]⟩
abbrev S2048x64 : Shape := ⟨2, ![2048, 64]⟩
abbrev S2048 : Shape := ⟨1, ![2048]⟩
abbrev S2048x1 : Shape := ⟨2, ![2048, 1]⟩
abbrev S1x64 : Shape := ⟨2, ![1, 64]⟩
abbrev S256x512 : Shape := ⟨2, ![256, 512]⟩
abbrev S256x8 : Shape := ⟨2, ![256, 8]⟩
abbrev S1x512x1024 : Shape := ⟨3, ![1, 512, 1024]⟩
abbrev S512x1024 : Shape := ⟨2, ![512, 1024]⟩
abbrev S256x1 : Shape := ⟨2, ![256, 1]⟩
abbrev S1x256x1024 : Shape := ⟨3, ![1, 256, 1024]⟩
abbrev S1 : Shape := ⟨1, ![1]⟩

abbrev nBuf : Space → Nat
  | .hbm => 5
  | .vmem => 9
  | .smem => 0
  | _ => 0

abbrev bufTy : (tb : Table) → Fin (tcTables nBuf tb) → BufTy
  | .hbm, ⟨0, _⟩ => ⟨S2048x512, .f32⟩
  | .hbm, ⟨1, _⟩ => ⟨S512x64, .f32⟩
  | .hbm, ⟨2, _⟩ => ⟨S2048x2, .i32⟩
  | .hbm, ⟨3, _⟩ => ⟨S8x512x1024, .f32⟩
  | .hbm, ⟨4, _⟩ => ⟨S256x1024, .f32⟩
  | .local _ .vmem, ⟨0, _⟩ => ⟨S2048x512, .f32⟩
  | .local _ .vmem, ⟨1, _⟩ => ⟨S512x64, .f32⟩
  | .local _ .vmem, ⟨2, _⟩ => ⟨S2048x2, .i32⟩
  | .local _ .vmem, ⟨3, _⟩ => ⟨S8x512x1024, .f32⟩
  | .local _ .vmem, ⟨4, _⟩ => ⟨S256x1024, .f32⟩
  | .local _ .vmem, ⟨5, _⟩ => ⟨S2048x8, .f32⟩
  | .local _ .vmem, ⟨6, _⟩ => ⟨S8x512x1024, .bf16⟩
  | .local _ .vmem, ⟨7, _⟩ => ⟨S7x256x1024, .bf16⟩
  | .local _ .vmem, ⟨8, _⟩ => ⟨S7x256x1024, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) (c1_i32_81 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v180 : BitVec 32 := Scalar.subi v2 c1_i32_81
  let c8_i32_82 : BitVec 32 := 8#32
  let v181 : BitVec 32 := Scalar.addi v180 c8_i32_82
  let c8_i32_83 : BitVec 32 := 8#32
  let v182 : BitVec 32 := Scalar.remsi v181 c8_i32_83
  let c256_i32 : BitVec 32 := 256#32
  let v183 : BitVec 32 := Scalar.muli v182 c256_i32
  let v184 : Index := Scalar.indexCast v183
  let c0_84 : Index := 0#32
  ![v184.toNat, 0]
def k0_off2 (d0 : Dev nD) (c1_i32_81 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v180 : BitVec 32 := Scalar.subi v2 c1_i32_81
  let c8_i32_82 : BitVec 32 := 8#32
  let v181 : BitVec 32 := Scalar.addi v180 c8_i32_82
  let c8_i32_83 : BitVec 32 := 8#32
  let v182 : BitVec 32 := Scalar.remsi v181 c8_i32_83
  let c256_i32 : BitVec 32 := 256#32
  let v183 : BitVec 32 := Scalar.muli v182 c256_i32
  let v188 : Index := Scalar.indexCast v183
  let c0_85 : Index := 0#32
  ![v188.toNat, 0]
def k0_dev8 (d0 : Dev nD) : Nat :=
  let c0_i32_120 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_81 : BitVec 32 := 1#32
  let v180 : BitVec 32 := Scalar.subi v2 c1_i32_81
  let c8_i32_82 : BitVec 32 := 8#32
  let v181 : BitVec 32 := Scalar.addi v180 c8_i32_82
  let c8_i32_83 : BitVec 32 := 8#32
  let v182 : BitVec 32 := Scalar.remsi v181 c8_i32_83
  let c1_i32_119 : BitVec 32 := 1#32
  let v249 : BitVec 32 := Scalar.muli v182 c1_i32_119
  let v250 : BitVec 32 := Scalar.addi c0_i32_120 v249
  v250.toNat
def k0_dev9 (d0 : Dev nD) : Nat :=
  let c0_i32_171 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_125 : BitVec 32 := 2#32
  let v259 : BitVec 32 := Scalar.subi v2 c2_i32_125
  let c8_i32_126 : BitVec 32 := 8#32
  let v260 : BitVec 32 := Scalar.addi v259 c8_i32_126
  let c8_i32_127 : BitVec 32 := 8#32
  let v261 : BitVec 32 := Scalar.remsi v260 c8_i32_127
  let c1_i32_170 : BitVec 32 := 1#32
  let v328 : BitVec 32 := Scalar.muli v261 c1_i32_170
  let v329 : BitVec 32 := Scalar.addi c0_i32_171 v328
  v329.toNat
def k0_dev10 (d0 : Dev nD) : Nat :=
  let c0_i32_222 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_176 : BitVec 32 := 3#32
  let v338 : BitVec 32 := Scalar.subi v2 c3_i32_176
  let c8_i32_177 : BitVec 32 := 8#32
  let v339 : BitVec 32 := Scalar.addi v338 c8_i32_177
  let c8_i32_178 : BitVec 32 := 8#32
  let v340 : BitVec 32 := Scalar.remsi v339 c8_i32_178
  let c1_i32_221 : BitVec 32 := 1#32
  let v407 : BitVec 32 := Scalar.muli v340 c1_i32_221
  let v408 : BitVec 32 := Scalar.addi c0_i32_222 v407
  v408.toNat
def k0_dev11 (d0 : Dev nD) : Nat :=
  let c0_i32_273 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_227 : BitVec 32 := 4#32
  let v417 : BitVec 32 := Scalar.subi v2 c4_i32_227
  let c8_i32_228 : BitVec 32 := 8#32
  let v418 : BitVec 32 := Scalar.addi v417 c8_i32_228
  let c8_i32_229 : BitVec 32 := 8#32
  let v419 : BitVec 32 := Scalar.remsi v418 c8_i32_229
  let c1_i32_272 : BitVec 32 := 1#32
  let v486 : BitVec 32 := Scalar.muli v419 c1_i32_272
  let v487 : BitVec 32 := Scalar.addi c0_i32_273 v486
  v487.toNat
def k0_dev12 (d0 : Dev nD) : Nat :=
  let c0_i32_324 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_278 : BitVec 32 := 5#32
  let v496 : BitVec 32 := Scalar.subi v2 c5_i32_278
  let c8_i32_279 : BitVec 32 := 8#32
  let v497 : BitVec 32 := Scalar.addi v496 c8_i32_279
  let c8_i32_280 : BitVec 32 := 8#32
  let v498 : BitVec 32 := Scalar.remsi v497 c8_i32_280
  let c1_i32_323 : BitVec 32 := 1#32
  let v565 : BitVec 32 := Scalar.muli v498 c1_i32_323
  let v566 : BitVec 32 := Scalar.addi c0_i32_324 v565
  v566.toNat
def k0_dev13 (d0 : Dev nD) : Nat :=
  let c0_i32_375 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_329 : BitVec 32 := 6#32
  let v575 : BitVec 32 := Scalar.subi v2 c6_i32_329
  let c8_i32_330 : BitVec 32 := 8#32
  let v576 : BitVec 32 := Scalar.addi v575 c8_i32_330
  let c8_i32_331 : BitVec 32 := 8#32
  let v577 : BitVec 32 := Scalar.remsi v576 c8_i32_331
  let c1_i32_374 : BitVec 32 := 1#32
  let v644 : BitVec 32 := Scalar.muli v577 c1_i32_374
  let v645 : BitVec 32 := Scalar.addi c0_i32_375 v644
  v645.toNat
def k0_dev14 (d0 : Dev nD) : Nat :=
  let c0_i32_426 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_380 : BitVec 32 := 7#32
  let v654 : BitVec 32 := Scalar.subi v2 c7_i32_380
  let c8_i32_381 : BitVec 32 := 8#32
  let v655 : BitVec 32 := Scalar.addi v654 c8_i32_381
  let c8_i32_382 : BitVec 32 := 8#32
  let v656 : BitVec 32 := Scalar.remsi v655 c8_i32_382
  let c1_i32_425 : BitVec 32 := 1#32
  let v723 : BitVec 32 := Scalar.muli v656 c1_i32_425
  let v724 : BitVec 32 := Scalar.addi c0_i32_426 v723
  v724.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_431 : BitVec 32 := 256#32
  let v733 : BitVec 32 := Scalar.muli v2 c256_i32_431
  let v734 : Index := Scalar.indexCast v733
  let c0_432 : Index := 0#32
  ![v734.toNat, 0]
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_431 : BitVec 32 := 256#32
  let v733 : BitVec 32 := Scalar.muli v2 c256_i32_431
  let v738 : Index := Scalar.indexCast v733
  let c0_433 : Index := 0#32
  ![v738.toNat, 0]
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S2048x512 : Shape := ⟨2, ![2048, 512]⟩
abbrev S512x64 : Shape := ⟨2, ![512, 64]⟩
abbrev S2048x2 : Shape := ⟨2, ![2048, 2]⟩
abbrev S64x512x1024 : Shape := ⟨3, ![64, 512, 1024]⟩
abbrev S2048x64 : Shape := ⟨2, ![2048, 64]⟩
abbrev S_ : Shape := ⟨0, ![]⟩
abbrev S2048 : Shape := ⟨1, ![2048]⟩
abbrev S2048x1 : Shape := ⟨2, ![2048, 1]⟩
abbrev S2048x512x1024 : Shape := ⟨3, ![2048, 512, 1024]⟩
abbrev S2048x1024 : Shape := ⟨2, ![2048, 1024]⟩

abbrev nBuf : Space → Nat
  | .hbm => 87
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x64, .f32⟩
  | .hbm, ⟨2, _⟩ => ⟨S2048x2, .i32⟩
  | .hbm, ⟨3, _⟩ => ⟨S64x512x1024, .f32⟩
  | .hbm, ⟨4, _⟩ => ⟨S2048x64, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S2048x64, .f32⟩
  | .hbm, ⟨9, _⟩ => ⟨S2048x64, .f32⟩
  | .hbm, ⟨10, _⟩ => ⟨S2048x64, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S2048x64, .f32⟩
  | .hbm, ⟨15, _⟩ => ⟨S2048x64, .f32⟩
  | .hbm, ⟨16, _⟩ => ⟨S2048, .i32⟩
  | .hbm, ⟨17, _⟩ => ⟨S2048x1, .i32⟩
  | .hbm, ⟨18, _⟩ => ⟨S2048, .i32⟩
  | .hbm, ⟨19, _⟩ => ⟨S2048x1, .i32⟩
  | .hbm, ⟨20, _⟩ => ⟨S2048, .i32⟩
  | .hbm, ⟨21, _⟩ => ⟨S_, .i32⟩
  | .hbm, ⟨22, _⟩ => ⟨S2048, .i32⟩
  | .hbm, ⟨23, _⟩ => ⟨S2048, .i1⟩
  | .hbm, ⟨24, _⟩ => ⟨S_, .i32⟩
  | .hbm, ⟨25, _⟩ => ⟨S2048, .i32⟩
  | .hbm, ⟨26, _⟩ => ⟨S2048, .i32⟩
  | .hbm, ⟨27, _⟩ => ⟨S2048, .i32⟩
  | .hbm, ⟨28, _⟩ => ⟨S_, .i32⟩
  | .hbm, ⟨29, _⟩ => ⟨S2048, .i32⟩
  | .hbm, ⟨30, _⟩ => ⟨S2048, .i1⟩
  | .hbm, ⟨31, _⟩ => ⟨S_, .i32⟩
  | .hbm, ⟨32, _⟩ => ⟨S2048, .i32⟩
  | .hbm, ⟨33, _⟩ => ⟨S2048, .i32⟩
  | .hbm, ⟨34, _⟩ => ⟨S2048, .i32⟩
  | .hbm, ⟨35, _⟩ => ⟨S2048x1, .i32⟩
  | .hbm, ⟨36, _⟩ => ⟨S2048x1, .i32⟩
  | .hbm, ⟨37, _⟩ => ⟨S2048x2, .i32⟩
  | .hbm, ⟨38, _⟩ => ⟨S2048, .f32⟩
  | .hbm, ⟨39, _⟩ => ⟨S_, .i32⟩
  | .hbm, ⟨40, _⟩ => ⟨S2048, .i32⟩
  | .hbm, ⟨41, _⟩ => ⟨S2048, .i1⟩
  | .hbm, ⟨42, _⟩ => ⟨S_, .i32⟩
  | .hbm, ⟨43, _⟩ => ⟨S2048, .i32⟩
  | .hbm, ⟨44, _⟩ => ⟨S2048, .i32⟩
  | .hbm, ⟨45, _⟩ => ⟨S2048, .i32⟩
  | .hbm, ⟨46, _⟩ => ⟨S_, .i32⟩
  | .hbm, ⟨47, _⟩ => ⟨S2048, .i32⟩
  | .hbm, ⟨48, _⟩ => ⟨S2048, .i1⟩
  | .hbm, ⟨49, _⟩ => ⟨S_, .i32⟩
  | .hbm, ⟨50, _⟩ => ⟨S2048, .i32⟩
  | .hbm, ⟨51, _⟩ => ⟨S2048, .i32⟩
  | .hbm, ⟨52, _⟩ => ⟨S2048, .i32⟩
  | .hbm, ⟨53, _⟩ => ⟨S2048x1, .i32⟩
  | .hbm, ⟨54, _⟩ => ⟨S2048x1, .i32⟩
  | .hbm, ⟨55, _⟩ => ⟨S2048x2, .i32⟩
  | .hbm, ⟨56, _⟩ => ⟨S2048, .f32⟩
  | .hbm, ⟨57, _⟩ => ⟨S2048, .f32⟩
  | .hbm, ⟨58, _⟩ => ⟨S_, .i32⟩
  | .hbm, ⟨59, _⟩ => ⟨S2048, .i32⟩
  | .hbm, ⟨60, _⟩ => ⟨S2048, .i1⟩
  | .hbm, ⟨61, _⟩ => ⟨S_, .i32⟩
  | .hbm, ⟨62, _⟩ => ⟨S2048, .i32⟩
  | .hbm, ⟨63, _⟩ => ⟨S2048, .i32⟩
  | .hbm, ⟨64, _⟩ => ⟨S2048, .i32⟩
  | .hbm, ⟨65, _⟩ => ⟨S2048x1, .i32⟩
  | .hbm, ⟨66, _⟩ => ⟨S2048x512x1024, .f32⟩
  | .hbm, ⟨67, _⟩ => ⟨S2048x1024, .f32⟩
  | .hbm, ⟨68, _⟩ => ⟨S_, .i32⟩
  | .hbm, ⟨69, _⟩ => ⟨S2048, .i32⟩
  | .hbm, ⟨70, _⟩ => ⟨S2048, .i1⟩
  | .hbm, ⟨71, _⟩ => ⟨S_, .i32⟩
  | .hbm, ⟨72, _⟩ => ⟨S2048, .i32⟩
  | .hbm, ⟨73, _⟩ => ⟨S2048, .i32⟩
  | .hbm, ⟨74, _⟩ => ⟨S2048, .i32⟩
  | .hbm, ⟨75, _⟩ => ⟨S2048x1, .i32⟩
  | .hbm, ⟨76, _⟩ => ⟨S2048x512x1024, .f32⟩
  | .hbm, ⟨77, _⟩ => ⟨S2048x1024, .f32⟩
  | .hbm, ⟨78, _⟩ => ⟨S2048, .f32⟩
  | .hbm, ⟨79, _⟩ => ⟨S2048x1, .f32⟩
  | .hbm, ⟨80, _⟩ => ⟨S2048x1024, .f32⟩
  | .hbm, ⟨81, _⟩ => ⟨S2048x1024, .f32⟩
  | .hbm, ⟨82, _⟩ => ⟨S2048, .f32⟩
  | .hbm, ⟨83, _⟩ => ⟨S2048x1, .f32⟩
  | .hbm, ⟨84, _⟩ => ⟨S2048x1024, .f32⟩
  | .hbm, ⟨85, _⟩ => ⟨S2048x1024, .f32⟩
  | .hbm, ⟨86, _⟩ => ⟨S2048x1024, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_4 : Ref sig .tc := ⟨.hbm, 39, rfl⟩
abbrev main_v29 : Ref sig .tc := ⟨.hbm, 40, rfl⟩
abbrev main_v30 : Ref sig .tc := ⟨.hbm, 41, rfl⟩
abbrev main_c_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_6 : Ref sig .tc := ⟨.hbm, 46, rfl⟩
abbrev main_v34 : Ref sig .tc := ⟨.hbm, 47, rfl⟩
abbrev main_v35 : Ref sig .tc := ⟨.hbm, 48, rfl⟩
abbrev main_c_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c_8 : Ref sig .tc := ⟨.hbm, 58, rfl⟩
abbrev main_v44 : Ref sig .tc := ⟨.hbm, 59, rfl⟩
abbrev main_v45 : Ref sig .tc := ⟨.hbm, 60, rfl⟩
abbrev main_c_9 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_c_10 : Ref sig .tc := ⟨.hbm, 68, rfl⟩
abbrev main_v52 : Ref sig .tc := ⟨.hbm, 69, rfl⟩
abbrev main_v53 : Ref sig .tc := ⟨.hbm, 70, rfl⟩
abbrev main_c_11 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== Proof.Contents.lean ====
/-
# What the buffers hold

The contents every buffer of the kernel takes on one device, over any interpretation `F` of the float types: the
routing weights of the device's eight experts, its rounded expert matrices, the product of one chunk of rows with the
eight experts (`chunk`, the same function for the seven chunks that are sent away and for the chunk that stays), the
values sent, and the running sum the result buffer ends at.

The rows of the activations are cut into eight chunks of 256. Device `c` owns chunk `c` of the result. With `k : Fin 7`
device `c` computes the chunk of device `dn c k = c - (k+1)` and copies it there; it receives, for the same `k`, the
part of its own chunk that device `up c k = c + (k+1)` computed.
-/
module

public import proofs.«01_k».proof.Proof.Gen.KernelIdeal
public import proofs.«01_k».proof.Proof.Gen.KernelIdeal.Skeleton
public import proofs.«01_k».proof.Proof.Gen.KernelIdeal.Launch

@[expose] public section

noncomputable section

namespace Cert.Moe

open Cert.KernelIdeal Cert.KernelIdeal.Gen

open Idealize.ShloMosaic
open Idealize.ShloMosaic.TcCoe
open Idealize.SL Idealize.SL.Sem

variable {F : FTy → Type} [FloatOps F]
variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The shifts of the mesh -/

set_option backward.proofsInPublic true in
/-- The device `k + 1` places after `c`. -/
def up (c : Dev nD) (k : Fin 7) : Dev nD := ⟨(c.val + (k.val + 1)) % 8, Nat.mod_lt _ (by decide)⟩
set_option backward.proofsInPublic true in
/-- The device `k + 1` places before `c`. -/
def dn (c : Dev nD) (k : Fin 7) : Dev nD := ⟨(c.val + (7 - k.val)) % 8, Nat.mod_lt _ (by decide)⟩

theorem up_dn (c : Dev nD) (k : Fin 7) : up (dn c k) k = c := by revert c k; decide
theorem dn_up (c : Dev nD) (k : Fin 7) : dn (up c k) k = c := by revert c k; decide

/-- Shifting by `k + 1` is a bijection of the mesh. -/
def shift (k : Fin 7) : Dev nD ≃ Dev nD := ⟨fun c => up c k, fun c => dn c k, fun c => dn_up c k, fun c => up_dn c k⟩

/-! ## The staged operands -/

/-- The activations as the kernel stages them. -/
def xStg (c : Dev nD) : (cc0_stg0_0 : Ref sig .tc).ty.Contents (Elt F) :=
  (win0_0.blk (0 : Fin 1)).view.read (Elt F) ((s₀ m ρ).mem ((c : Thread nD τ).loc main_arg0))
/-- The router matrix as the kernel stages it. -/
def rwStg (c : Dev nD) : (cc0_stg1_0 : Ref sig .tc).ty.Contents (Elt F) :=
  (win0_1.blk (0 : Fin 1)).view.read (Elt F) ((s₀ m ρ).mem ((c : Thread nD τ).loc main_arg1))
/-- The two expert numbers of each row as the kernel stages them. -/
def idxStg (c : Dev nD) : (cc0_stg2_0 : Ref sig .tc).ty.Contents (Elt F) :=
  (win0_2.blk (0 : Fin 1)).view.read (Elt F) ((s₀ m ρ).mem ((c : Thread nD τ).loc main_arg2))
/-- The device's eight expert matrices as the kernel stages them. -/
def ewStg (c : Dev nD) : (cc0_stg3_0 : Ref sig .tc).ty.Contents (Elt F) :=
  (win0_3.blk (0 : Fin 1)).view.read (Elt F) ((s₀ m ρ).mem ((c : Thread nD τ).loc main_arg3))

/-! ## The buffers, as memrefs -/

abbrev xM : Memref sig .tc .vmem S2048x512 .f32 := Memref.whole cc0_stg0_0
abbrev rwM : Memref sig .tc .vmem S512x64 .f32 := Memref.whole cc0_stg1_0
abbrev idxM : Memref sig .tc .vmem S2048x2 .i32 := Memref.whole cc0_stg2_0
abbrev ewM : Memref sig .tc .vmem S8x512x1024 .f32 := Memref.whole cc0_stg3_0
abbrev outM : Memref sig .tc .vmem S256x1024 .f32 := Memref.whole cc0_stg4_0
abbrev wtM : Memref sig .tc .vmem S2048x8 .f32 := Memref.whole cc0_scratch0
abbrev ebM : Memref sig .tc .vmem S8x512x1024 .bf16 := Memref.whole cc0_scratch1
abbrev sendM : Memref sig .tc .vmem S7x256x1024 .bf16 := Memref.whole cc0_scratch2
abbrev recvM : Memref sig .tc .vmem S7x256x1024 .bf16 := Memref.whole cc0_scratch3

/-! ## The rectangles the body reads -/

theorem inb_slot (k : Fin 7) : ∀ a, (![k.val, 0, 0] : Fin 3 → Nat) a + S1x256x1024.size a ≤ S7x256x1024.size a := by revert k; decide
theorem inb_sem (k : Fin 7) : ∀ a, (![k.val] : Fin 1 → Nat) a + S1.size a ≤ S7.size a := by revert k; decide
theorem inb_expert (e : Fin 8) : ∀ a, (![e.val, 0, 0] : Fin 3 → Nat) a + S1x512x1024.size a ≤ S8x512x1024.size a := by revert e; decide
theorem inb_rows (d : Dev nD) : ∀ a, (![256 * d.val, 0] : Fin 2 → Nat) a + S256x512.size a ≤ S2048x512.size a := by revert d; decide
theorem inb_wrows (d : Dev nD) : ∀ a, (![256 * d.val, 0] : Fin 2 → Nat) a + S256x8.size a ≤ S2048x8.size a := by revert d; decide
theorem inb_idx (j : Fin 2) : ∀ a, (![0, j.val] : Fin 2 → Nat) a + S2048x1.size a ≤ S2048x2.size a := by revert j; decide
theorem slices_col (e : Fin 8) : S256x8.Slices ![0, e.val] S256x1 := by revert e; decide

/-- Slot `k` of the send and of the receive buffer. -/
abbrev slotR (k : Fin 7) : Rect S7x256x1024 := Rect.unit (s := S7x256x1024) ![k.val, 0, 0] S1x256x1024.size (inb_slot k)
/-- Expert `e` of the device's eight. -/
abbrev expertR (e : Fin 8) : Rect S8x512x1024 := Rect.unit (s := S8x512x1024) ![e.val, 0, 0] S1x512x1024.size (inb_expert e)
/-- The 256 rows of device `d`'s chunk, of the activations and of the weights. -/
abbrev rowsR (d : Dev nD) : Rect S2048x512 := Rect.unit (s := S2048x512) ![256 * d.val, 0] S256x512.size (inb_rows d)
abbrev wrowsR (d : Dev nD) : Rect S2048x8 := Rect.unit (s := S2048x8) ![256 * d.val, 0] S256x8.size (inb_wrows d)
/-- Column `j` of the expert numbers. -/
abbrev idxR (j : Fin 2) : Rect S2048x2 := Rect.unit (s := S2048x2) ![0, j.val] S2048x1.size (inb_idx j)

/-! ## The routing weights -/

/-- The device's own number as the kernel computes it. -/
def myWord (c : Dev nD) : BitVec 32 := Scalar.remsi (Scalar.divsi (Dev.word c) 1#32) 8#32

/-- The two columns of expert numbers. -/
def idx0 (c : Dev nD) : Vec F S2048x1 .i32 := idxM.view.readAt (Elt F) (idxR 0).toLoadRect (idxStg m ρ c)
def idx1 (c : Dev nD) : Vec F S2048x1 .i32 := idxM.view.readAt (Elt F) (idxR 1).toLoadRect (idxStg m ρ c)

/-- The softmax of the router's scores. -/
def probs (c : Dev nD) : FVec F S2048x64 .f32 := k0_pay1 (xStg m ρ c) (rwStg m ρ c)
/-- The gate of the first and of the second choice, each the masked sum of the softmax over the experts, and their sum. -/
def gate0 (c : Dev nD) : FVec F S2048x1 .f32 := k0_pay4 (xStg m ρ c) (rwStg m ρ c) (idx0 m ρ c)
def gate1 (c : Dev nD) : FVec F S2048x1 .f32 := k0_pay6 (probs m ρ c) (iota .tc S1x64 32 [1] iota_S1x64_d1_w32) (k0_pay5 (idx1 m ρ c))
def gateSum (c : Dev nD) : FVec F S2048x1 .f32 :=
  k0_pay7 (probs m ρ c) (iota .tc S1x64 32 [1] iota_S1x64_d1_w32) (gate0 m ρ c) (k0_pay5 (idx1 m ρ c))

/-- Column `e` of the weights: the normalised gate of each choice that names the device's expert `e`. -/
def weightCol (me : BitVec 32) (i0 i1 : IVec S2048x1 32) (g0 g1 gs : FVec F S2048x1 .f32) (e : BitVec 32) : FVec F S2048x1 .f32 :=
  addf
    (select (cmpi .eq i0 (broadcast S2048x1 (Scalar.addi (Scalar.muli me 8#32) e))) (divf g0 gs) (broadcast S2048x1 (Scalar.ofBits .f32 0x00000000#32)))
    (select (cmpi .eq i1 (broadcast S2048x1 (Scalar.addi (Scalar.muli me 8#32) e))) (divf g1 gs) (broadcast S2048x1 (Scalar.ofBits .f32 0x00000000#32)))

/-- The eight columns side by side. -/
def weightsOf (me : BitVec 32) (i0 i1 : IVec S2048x1 32) (g0 g1 gs : FVec F S2048x1 .f32) : FVec F S2048x8 .f32 :=
  shapeCast S2048x8 (concatenate S2048x8 1
    [⟨S2048x1, weightCol me i0 i1 g0 g1 gs 0#32⟩, ⟨S2048x1, weightCol me i0 i1 g0 g1 gs 1#32⟩, ⟨S2048x1, weightCol me i0 i1 g0 g1 gs 2#32⟩,
     ⟨S2048x1, weightCol me i0 i1 g0 g1 gs 3#32⟩, ⟨S2048x1, weightCol me i0 i1 g0 g1 gs 4#32⟩, ⟨S2048x1, weightCol me i0 i1 g0 g1 gs 5#32⟩,
     ⟨S2048x1, weightCol me i0 i1 g0 g1 gs 6#32⟩, ⟨S2048x1, weightCol me i0 i1 g0 g1 gs 7#32⟩]
    concatenates_S2048x1_S2048x1_S2048x1_S2048x1_S2048x1_S2048x1_S2048x1_S2048x1_S2048x8_d1) shapeCasts_S2048x8_S2048x8

/-- What the weight buffer of device `c` holds. -/
def weights (c : Dev nD) : (cc0_scratch0 : Ref sig .tc).ty.Contents (Elt F) :=
  weightsOf (myWord c) (k0_pay2 (idx0 m ρ c)) (k0_pay3 (idx1 m ρ c)) (gate0 m ρ c) (gate1 m ρ c) (gateSum m ρ c)

/-- What the buffer of rounded expert matrices of device `c` holds. -/
def experts (c : Dev nD) : (cc0_scratch1 : Ref sig .tc).ty.Contents (Elt F) := k0_pay18 (ewStg m ρ c)

/-! ## One chunk -/

/-- Expert `e`'s product with a chunk's rows, each row scaled by its weight. -/
def expertTerm (x : FVec F S256x512 .bf16) (wt : Vec F S256x8 .f32) (e : Fin 8) (w : Vec F S1x512x1024 .bf16) : FVec F S256x1024 .f32 :=
  mulf (matmul dot_S256x512_S512x1024_S256x1024_1_0_0_1_n_n none x (shapeCast S512x1024 w shapeCasts_S1x512x1024_S512x1024) (constant S256x1024 .f32 0x00000000#32))
    (broadcastTo S256x1024 (extractStridedSlice S256x1 ![0, e.val] wt (slices_col e)) broadcasts_S256x1_S256x1024)

/-- The rows of a chunk, rounded. -/
def rounded (x : Vec F S256x512 .f32) : FVec F S256x512 .bf16 := truncf .bf16 (shapeCast S256x512 x shapeCasts_S256x512_S256x512) bitsLt_bf16_f32

/-- The sum of the eight experts' terms, in order. -/
def chunkOf (x : Vec F S256x512 .f32) (wt : Vec F S256x8 .f32) (w : Fin 8 → Vec F S1x512x1024 .bf16) : FVec F S256x1024 .f32 :=
  addf (addf (addf (addf (addf (addf (addf (expertTerm (rounded x) wt 0 (w 0)) (expertTerm (rounded x) wt 1 (w 1))) (expertTerm (rounded x) wt 2 (w 2)))
    (expertTerm (rounded x) wt 3 (w 3))) (expertTerm (rounded x) wt 4 (w 4))) (expertTerm (rounded x) wt 5 (w 5))) (expertTerm (rounded x) wt 6 (w 6)))
    (expertTerm (rounded x) wt 7 (w 7))

/-- The rows of device `d`'s chunk that device `c` reads, their weights, and its experts. -/
def rowsOf (c d : Dev nD) : Vec F S256x512 .f32 := xM.view.readAt (Elt F) (rowsR d).toLoadRect (xStg m ρ c)
def wrowsOf (c d : Dev nD) : Vec F S256x8 .f32 := wtM.view.readAt (Elt F) (wrowsR d).toLoadRect (weights m ρ c)
def expertOf (c : Dev nD) (e : Fin 8) : Vec F S1x512x1024 .bf16 := ebM.view.readAt (Elt F) (expertR e).toLoadRect (experts m ρ c)

/-- Device `c`'s part of the chunk of device `d`. -/
def chunk (c d : Dev nD) : FVec F S256x1024 .f32 := chunkOf (rowsOf m ρ c d) (wrowsOf m ρ c d) (expertOf m ρ c)

/-- What device `c` stores in slot `k` of its send buffer: its part of the chunk of `dn c k`, rounded. -/
def sent (c : Dev nD) (k : Fin 7) : FVec F S1x256x1024 .bf16 :=
  shapeCast S1x256x1024 (truncf .bf16 (chunk m ρ c (dn c k)) bitsLt_bf16_f32) shapeCasts_S256x1024_S1x256x1024

/-! ## The running sum -/

/-- One received part added to the running sum. -/
def accum (a : Vec F S256x1024 .f32) (r : Vec F S1x256x1024 .bf16) : FVec F S256x1024 .f32 :=
  addf (shapeCast S256x1024 a shapeCasts_S256x1024_S256x1024)
    (extf .f32 (shapeCast S256x1024 r shapeCasts_S1x256x1024_S256x1024) bitsLt_bf16_f32)

/-- The result buffer after the parts for the shifts in `ks`, in order, were added to device `c`'s own part. -/
def sumOver (c : Dev nD) (ks : List (Fin 7)) : FVec F S256x1024 .f32 :=
  ks.foldl (fun a k => accum a (sent m ρ (up c k) k)) (chunk m ρ c c)

/-- The kernel's result on device `c`. -/
def outAt (c : Dev nD) : (cc0_stg4_0 : Ref sig .tc).ty.Contents (Elt F) := sumOver m ρ c [0, 1, 2, 3, 4, 5, 6]

end Cert.Moe

end
-- ==== Proof.Protocol.lean ====
/-
# The protocol between the eight devices

Every device owns a barrier cell and, for each `k : Fin 7`, a send cell and a receive cell. All of them have one round.

* The barrier cell of `d` waits for seven units. Device `dn d k` pays the one named `k` and hands over slot `k` of its
  own receive buffer: the slot `d` will copy into. After the wait `d` may write into all seven devices.
* The receive cell `k` of `c` waits for the bytes of one slot. Device `up c k` pays them when its copy lands and hands
  back slot `k` of `c`'s receive buffer, holding `sent (up c k) k`.
* The send cell `k` of `c` waits for the same bytes, paid by `c`'s own copy, and returns slot `k` of its send buffer.

A device waits on its barrier while it owes receive cells only, and on its other cells when it owes nothing, so no
circle of waits arises: barrier cells are at level 1 and receive cells at level 2.
-/
module

public import proofs.«01_k».proof.Proof.Contents
public import Idealize.ShloMosaic.Lib.Pipeline.Launch
public import Idealize.ShloMosaic.Lib.Pipeline.Kit
public import Idealize.ShloMosaic.Lib.Tactic

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost state: the pipeline's part and the protocol's, whose duties are named by the shift -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The cells -/

/-- The barrier semaphore, and the send and receive semaphores of shift `k`. -/
abbrev barS : Sem sig := (SemArray.scalar (sig.barrier 0 rfl) : Sems sig S_).sem
abbrev sendS (k : Fin 7) : DmaSem sig := ((cc0_scratch4.slice (Rect.unit (s := S7) ![k.val] S1.size (inb_sem k))).squeeze S_ squeezes_S1_S_).sem
abbrev recvS (k : Fin 7) : DmaSem sig := ((cc0_scratch5.slice (Rect.unit (s := S7) ![k.val] S1.size (inb_sem k))).squeeze S_ squeezes_S1_S_).sem

abbrev barCell (c : Dev nD) : GSem nD τ sig := ((c : Thread nD τ), .reg barS)
abbrev sendCell (c : Dev nD) (k : Fin 7) : GSem nD τ sig := ((c : Thread nD τ), .dma (sendS k))
abbrev recvCell (c : Dev nD) (k : Fin 7) : GSem nD τ sig := ((c : Thread nD τ), .dma (recvS k))

/-- The kernel's scoped semaphores: send (`inl`) and receive (`inr`). -/
abbrev osem : Fin 7 ⊕ Fin 7 → SemLoc sig := fun | .inl k => .dma (sendS k) | .inr k => .dma (recvS k)
/-- All semaphores of the protocol: the barrier first. -/
abbrev CIx : Type := Unit ⊕ (Fin 7 ⊕ Fin 7)
abbrev csem : CIx → SemLoc sig := fun | .inl _ => .reg barS | .inr j => osem j
abbrev kcell (cj : Dev nD × CIx) : GSem nD τ sig := ((cj.1 : Thread nD τ), csem cj.2)

theorem osem_injective : Function.Injective osem := by decide
theorem csem_injective : Function.Injective csem := by
  rintro (a | a) (b | b) h
  · rfl
  · rcases b with b | b <;> cases h
  · rcases a with a | a <;> cases h
  · exact congrArg Sum.inr (osem_injective h)

/-- Which of the protocol's semaphores a semaphore is. -/
def cix (sm : SemLoc sig) : Option CIx := open Classical in if h : ∃ j, csem j = sm then some h.choose else none
theorem cix_csem (j : CIx) : cix (csem j) = some j := by
  have h : ∃ j', csem j' = csem j := ⟨j, rfl⟩
  unfold cix; rw [dif_pos h]; exact congrArg some (csem_injective h.choose_spec)
theorem cix_bar : cix (.reg barS) = some (.inl ()) := cix_csem (.inl ())
theorem cix_send (k : Fin 7) : cix (.dma (sendS k)) = some (.inr (.inl k)) := cix_csem (.inr (.inl k))
theorem cix_recv (k : Fin 7) : cix (.dma (recvS k)) = some (.inr (.inr k)) := cix_csem (.inr (.inr k))

theorem kcell_injective : Function.Injective (kcell : Dev nD × CIx → GSem nD τ sig) := by
  rintro ⟨c, j⟩ ⟨c', j'⟩ h
  have h1 : c = c' := congrArg (fun g : GSem nD τ sig => g.1.1) h
  have h2 : j = j' := csem_injective (congrArg Prod.snd h)
  rw [h1, h2]

/-! ## The slots -/

/-- Slot `k` of the send and of the receive buffer, as the copies address it. -/
abbrev sendSlot (k : Fin 7) : Memref sig .tc .vmem S256x1024 .bf16 :=
  (sendM.slice (slotR k) (fun _ => rfl)).squeeze S256x1024 squeezes_S1x256x1024_S256x1024
abbrev recvSlot (k : Fin 7) : Memref sig .tc .vmem S256x1024 .bf16 :=
  (recvM.slice (slotR k) (fun _ => rfl)).squeeze S256x1024 squeezes_S1x256x1024_S256x1024

/-- The bytes of one slot, as the semaphores count them. -/
abbrev N : ℕ := (recvSlot 0).view.dmaCredit
theorem N_pos : 0 < N := View.dmaCredit_pos _ (by decide)

/-- Slot `k` of device `c`'s send buffer, and of its receive buffer, at contents `f`. -/
def sendPts (c : Dev nD) (k : Fin 7) (f : Buf (Elt F) ((sendSlot k).view.loc (c : Thread nD τ))) : sProp 𝕄 :=
  (sendSlot k).view.loc (c : Thread nD τ) ↦[(sendSlot k).view.set]{fullShare} f
def recvPts (c : Dev nD) (k : Fin 7) (f : Buf (Elt F) ((recvSlot k).view.loc (c : Thread nD τ))) : sProp 𝕄 :=
  (recvSlot k).view.loc (c : Thread nD τ) ↦[(recvSlot k).view.set]{fullShare} f

omit [FloatOps F] in
instance sendPts_storable (c : Dev nD) (k f) : BI.Storable (upEmb : UEmb _ 𝕄) (sendPts (F := F) c k f) := by unfold sendPts; infer_instance
omit [FloatOps F] in
instance recvPts_storable (c : Dev nD) (k f) : BI.Storable (upEmb : UEmb _ 𝕄) (recvPts (F := F) c k f) := by unfold recvPts; infer_instance

/-! ## What the cells hand over -/

/-- With unit `k` of device `d`'s barrier: the slot of device `dn d k` that `d` copies into. -/
def barPay (d : Dev nD) (k : Fin 7) : sProp 𝕄 := iprop(∃ f, recvPts (dn d k) k f)
/-- With send cell `k`: the slot copied from. -/
def sendPay (c : Dev nD) (k : Fin 7) : sProp 𝕄 := iprop(∃ f, sendPts c k f)
/-- With receive cell `k`: the slot copied into, holding what `up c k` sent. -/
def recvPay (c : Dev nD) (k : Fin 7) : sProp 𝕄 :=
  iprop(∃ f, ⌜recvM.view.readAt (Elt F) (slotR k).toLoadRect f = sent m ρ (up c k) k⌝ ∗ recvPts c k f)

omit [FloatOps F] in
instance barPay_storable (c : Dev nD) (k) : BI.Storable (upEmb : UEmb _ 𝕄) (barPay (F := F) c k) := by unfold barPay; infer_instance
omit [FloatOps F] in
instance sendPay_storable (c : Dev nD) (k) : BI.Storable (upEmb : UEmb _ 𝕄) (sendPay (F := F) c k) := by unfold sendPay; infer_instance
instance recvPay_storable (c : Dev nD) (k) : BI.Storable (upEmb : UEmb _ 𝕄) (recvPay m ρ c k) := by unfold recvPay; infer_instance

/-! ## The schedule -/

/-- One round: a barrier cell has the seven duties of one unit, a send or receive cell one duty of a slot's bytes. -/
def sched : Rounds.Schedule (GSem nD τ sig) (Fin 7) 𝕄 where
  duties g r := if r = 0 ∧ g.1.2 = .tc then
      match cix g.2 with | some (.inl _) => Finset.univ | some (.inr _) => {0} | none => ∅
    else ∅
  unitless _ := False
  amount g _ _ := match cix g.2 with | some (.inl _) => 1 | _ => N
  payload g _ d := match cix g.2 with
    | some (.inl _) => barPay g.1.1 d
    | some (.inr (.inl k)) => sendPay g.1.1 k
    | some (.inr (.inr k)) => recvPay m ρ g.1.1 k
    | none => iprop(emp)
  amount_pos g _ _ _ := by split <;> [exact Nat.one_pos; exact N_pos]

instance sched_payload_storable (g : GSem nD τ sig) (r : ℕ) (d : Fin 7) :
    BI.Storable (upEmb : UEmb _ 𝕄) ((sched m ρ).payload g r d) := by
  dsimp only [sched]
  split <;> infer_instance

section Tables
variable (c : Dev nD) (k d : Fin 7)

theorem duties_bar : (sched m ρ).duties (barCell c) 0 = Finset.univ := by dsimp only [sched]; rw [if_pos ⟨rfl, rfl⟩, cix_bar]
theorem duties_send : (sched m ρ).duties (sendCell c k) 0 = {0} := by dsimp only [sched]; rw [if_pos ⟨rfl, rfl⟩, cix_send]
theorem duties_recv : (sched m ρ).duties (recvCell c k) 0 = {0} := by dsimp only [sched]; rw [if_pos ⟨rfl, rfl⟩, cix_recv]
theorem duties_later (g : GSem nD τ sig) : ∀ r, 1 ≤ r → (sched m ρ).duties g r = ∅ :=
  fun r hr => by dsimp only [sched]; rw [if_neg fun h => by omega]

theorem amount_bar : (sched m ρ).amount (barCell c) 0 d = 1 := by dsimp only [sched]; rw [cix_bar]
theorem amount_send : (sched m ρ).amount (sendCell c k) 0 d = N := by dsimp only [sched]; rw [cix_send]
theorem amount_recv : (sched m ρ).amount (recvCell c k) 0 d = N := by dsimp only [sched]; rw [cix_recv]

theorem expect_bar : (sched m ρ).expect (barCell c) 0 = 7 := by
  unfold Schedule.expect Schedule.amountOf
  rw [duties_bar, Finset.sum_congr rfl fun d _ => amount_bar m ρ c d, Finset.sum_const, Finset.card_univ, Fintype.card_fin, smul_eq_mul]
theorem expect_send : (sched m ρ).expect (sendCell c k) 0 = N := by
  unfold Schedule.expect Schedule.amountOf; rw [duties_send, Finset.sum_singleton, amount_send]
theorem expect_recv : (sched m ρ).expect (recvCell c k) 0 = N := by
  unfold Schedule.expect Schedule.amountOf; rw [duties_recv, Finset.sum_singleton, amount_recv]

theorem payload_bar : (sched m ρ).payload (barCell c) 0 d = barPay c d := by dsimp only [sched]; rw [cix_bar]
theorem payload_send : (sched m ρ).payload (sendCell c k) 0 d = sendPay c k := by dsimp only [sched]; rw [cix_send]
theorem payload_recv : (sched m ρ).payload (recvCell c k) 0 d = recvPay m ρ c k := by dsimp only [sched]; rw [cix_recv]

/-- All that a barrier, a send and a receive cell hand over at their wait. -/
theorem rest_bar : bigSep ((sched m ρ).duties (barCell c) 0 \ ∅) (fun d => (sched m ρ).payload (barCell c) 0 d) = bigSep Finset.univ (fun d => barPay (F := F) c d) := by
  rw [Finset.sdiff_empty, duties_bar]; exact bigSep_congr fun d _ => payload_bar m ρ c d
theorem rest_send : bigSep ((sched m ρ).duties (sendCell c k) 0 \ ∅) (fun d => (sched m ρ).payload (sendCell c k) 0 d) = sendPay c k := by
  rw [Finset.sdiff_empty, duties_send, bigSep_singleton, payload_send]
theorem rest_recv : bigSep ((sched m ρ).duties (recvCell c k) 0 \ ∅) (fun d => (sched m ρ).payload (recvCell c k) 0 d) = recvPay m ρ c k := by
  rw [Finset.sdiff_empty, duties_recv, bigSep_singleton, payload_recv]

end Tables

/-! ## What each device owes, and the levels -/

/-- The receive cells device `c` still has to fill when the copies for the shifts in `ks` are left. -/
def oweR (c : Dev nD) : List (Fin 7) → CellTallies nD τ sig Unit
  | [] => 0
  | k :: ks => oweR c ks + tallyAt (recvCell (dn c k) k) () N
/-- What it owes when also the signals for the shifts in `ks` are left. -/
def oweB (c : Dev nD) : List (Fin 7) → CellTallies nD τ sig Unit
  | [] => oweR c [0, 1, 2, 3, 4, 5, 6]
  | k :: ks => oweB c ks + tallyAt (barCell (up c k)) () 1
/-- What device `c` owes at launch. -/
def O₀ (c : Dev nD) : CellTallies nD τ sig Unit := oweB c [0, 1, 2, 3, 4, 5, 6]

def L (g : GSem nD τ sig) : Finset Unit := if g.1.2 = .tc then {()} else ∅
/-- Barrier cells at 1, receive cells at 2, every other cell at 0. -/
def lv (g : GSem nD τ sig) (_ : Unit) : ℕ := match cix g.2 with | some (.inl _) => 1 | some (.inr (.inr _)) => 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem mem_L (c : Dev nD) (sm : SemLoc sig) (u : Unit) : u ∈ L ((c : Thread nD τ), sm) := by rw [L_tc]; exact Finset.mem_singleton_self _
theorem lv_bar (c : Dev nD) (u : Unit) : lv (barCell c) u = 1 := by dsimp only [lv]; rw [cix_bar]
theorem lv_recv (c : Dev nD) (k : Fin 7) (u : Unit) : lv (recvCell c k) u = 2 := by dsimp only [lv]; rw [cix_recv]

theorem oweR_pos {c : Dev nD} {g : GSem nD τ sig} {u : Unit} : ∀ {ks : List (Fin 7)}, 0 < oweR c ks g u → ∃ k, g = recvCell (dn c k) k
  | [], h => absurd h (Nat.lt_irrefl 0)
  | k :: ks, h => (Pipeline.add_pos_cases h).elim oweR_pos fun h => ⟨k, (Pipeline.tallyAt_pos h).1⟩
theorem oweB_pos {c : Dev nD} {g : GSem nD τ sig} {u : Unit} :
    ∀ {ks : List (Fin 7)}, 0 < oweB c ks g u → (∃ k, g = recvCell (dn c k) k) ∨ ∃ k, g = barCell (up c k)
  | [], h => .inl (oweR_pos h)
  | k :: ks, h => (Pipeline.add_pos_cases h).elim oweB_pos fun h => .inr ⟨k, (Pipeline.tallyAt_pos h).1⟩

omit [FloatOps F] in
/-- A cell at level 0 may be waited on whatever of its launch debt a device still has. -/
theorem mayWait_low (c : Dev nD) (sm : SemLoc sig) (h0 : lv ((c : Thread nD τ), sm) () = 0) (O : CellTallies nD τ sig Unit) (hO : O = O₀ c ∨ O = 0) :
    (levAts L lv : sProp 𝕄) ⊢ MayWait (c : Thread nD τ) sm () O := by
  rcases hO with rfl | rfl
  · refine Pipeline.mayWait_of_levAts (mem_L c sm ()) fun g u hg => ?_
    rcases oweB_pos hg with ⟨k, rfl⟩ | ⟨k, rfl⟩
    · exact ⟨mem_L _ _ u, by rw [h0, lv_recv]; decide⟩
    · exact ⟨mem_L _ _ u, by rw [h0, lv_bar]; decide⟩
  · rw [MayWait_zero]; iintro -; iempintro

omit [FloatOps F] in
/-- At its barrier a device owes receive cells only. -/
theorem mayWait_bar (c : Dev nD) : (levAts L lv : sProp 𝕄) ⊢ MayWait (c : Thread nD τ) (.reg barS) () (oweB c []) := by
  refine Pipeline.mayWait_of_levAts (mem_L c _ ()) fun g u hg => ?_
  obtain ⟨k, rfl⟩ := oweR_pos hg
  exact ⟨mem_L _ _ u, by rw [lv_bar, lv_recv]; decide⟩

/-! ## The resources one device carries through the body -/

/-- The invariants of all cells, and that every cell has reached its round. -/
def records (K : Dev nD × CIx → ℕ) : sProp 𝕄 :=
  iprop((bigSep Finset.univ fun cj : Dev nD × CIx => cellInv ER (sched m ρ) (K cj) (kcell cj))
    ∗ bigSep Finset.univ fun cj : Dev nD × CIx => reached ER (kcell cj) 0)

instance records_persistent (K : Dev nD × CIx → ℕ) : BI.Persistent (records m ρ K) := by unfold records; infer_instance

theorem inv_at (K : Dev nD × CIx → ℕ) (cj : Dev nD × CIx) : records m ρ K ⊢ cellInv ER (sched m ρ) (K cj) (kcell cj) := by
  have h : (bigSep Finset.univ fun cj : Dev nD × CIx => (cellInv ER (sched m ρ) (K cj) (kcell cj) : sProp 𝕄)) ⊢ cellInv ER (sched m ρ) (K cj) (kcell cj) :=
    bigSep_elim (Finset.mem_univ cj)
  unfold records; iintro ⟨H, -⟩; iapply h; iexact H
theorem reached_at (K : Dev nD × CIx → ℕ) (cj : Dev nD × CIx) : records m ρ K ⊢ reached ER (kcell cj) 0 := by
  have h : (bigSep Finset.univ fun cj : Dev nD × CIx => (reached ER (kcell cj) 0 : sProp 𝕄)) ⊢ reached ER (kcell cj) 0 :=
    bigSep_elim (Finset.mem_univ cj)
  unfold records; iintro ⟨-, H⟩; iapply h; iexact H

/-- What device `c` owes, whatever it has waited for. -/
def owing (c : Dev nD) (O : CellTallies nD τ sig Unit) : sProp 𝕄 := iprop(∃ W, owes (c : Thread nD τ) O W)
/-- To wait on its barrier: the seven units' credit, and its place. -/
def barKit (c : Dev nD) : sProp 𝕄 := iprop(cred (tallyAt (barCell c) () 7) ∗ atPos ER (barCell c) 0 ∅ 0)
/-- To copy for shift `k`: the two duties it pays, and its place at its send cell. -/
def sendKit (c : Dev nD) (k : Fin 7) : sProp 𝕄 :=
  iprop(dutyTok ER (sendCell c k) 0 0 ∗ dutyTok ER (recvCell (dn c k) k) 0 0 ∗ atPos ER (sendCell c k) 0 ∅ 0)
/-- With the copy under way: the credit of its send cell. -/
def sendDue (c : Dev nD) (k : Fin 7) : sProp 𝕄 := iprop(cred (tallyAt (sendCell c k) () N) ∗ atPos ER (sendCell c k) 0 ∅ 0)
/-- With the copy done: the slot again, and the cell at zero. -/
def sendDone (c : Dev nD) (k : Fin 7) : sProp 𝕄 := iprop(semVal (sendCell c k) 0 ∗ ∃ f, sendPts c k f)
/-- To wait for the part of shift `k`. -/
def recvKit (c : Dev nD) (k : Fin 7) : sProp 𝕄 := iprop(cred (tallyAt (recvCell c k) () N) ∗ atPos ER (recvCell c k) 0 ∅ 0)
/-- With the part read: the slot again, and the cell at zero. -/
def recvDone (c : Dev nD) (k : Fin 7) : sProp 𝕄 := iprop(semVal (recvCell c k) 0 ∗ ∃ f, recvPts c k f)

end Cert.Moe

end
-- ==== Proof.Steps.lean ====
/-
# The steps of the body, one lemma per kind and every shift

A signal of the barrier, the wait on it, the copy of one slot, the wait for a received part and the wait for a finished
copy. Each lemma names the shift `k` and takes the operation's own operands with equations that say which they are, so
one lemma serves the seven places where the operation stands.
-/
module

public import proofs.«01_k».proof.Proof.Protocol
public import Idealize.ShloMosaic.Lib.Pipeline.Value

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (m : (ℓ : Loc nD τ sig) → Buf (Elt F) ℓ) (ρ : Dev nD → PrngReg) (K : Dev nD × CIx → ℕ)

/-- The weakest precondition of a program on device `c`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The barrier -/

/-- Signalling the device `k + 1` places on: one debt less, and slot `k` of the own receive buffer goes with it. -/
theorem wp_signal_k (c : Dev nD) (k : Fin 7) (ks : List (Fin 7)) (n : Dev nD) (hn : n = up c k) (a : ℕ) (ha : a = 1)
    {α : Type} {Q : α → sProp 𝕄} {kont : PUnit → Prog (TpuEff nD τ sig (Elt F) Λ₀ .tc) α} :
    iprop(records m ρ K ∗ owing c (oweB c (k :: ks)) ∗ dutyTok ER (barCell (up c k)) 0 k ∗ (∃ f, recvPts c k f))
      ⊢ iprop((owing c (oweB c ks) -∗ wpc c (kont ⟨⟩) Q) -∗ wpc c (.op (.semSignal (Dev.tc n : Thread nD τ) barS a) kont) Q) := by
  subst hn ha
  unfold owing
  iintro ⟨#HR, ⟨%W, HO⟩, Ht, Hp⟩ Hk
  iapply (Rounds.wp_signal 𝒱₀ ER (sched m ρ) (c : Thread nD τ) none (dst := (up c k : Thread nD τ)) (κ := K (up c k, .inl ()))
      (d := k) (by rw [duties_bar]; exact Finset.mem_univ _) (amount_bar m ρ (up c k) k) () (oweB c ks) rfl (W := W)) $$ [HO Ht Hp]
  · isplitr; · iapply (inv_at m ρ K (up c k, .inl ())); iexact HR
    isplitl [HO]; · iexact HO
    isplitl [Ht]; · iexact Ht
    isplitl [Hp]; · rw [payload_bar]; unfold barPay; rw [dn_up]; iexact Hp
    iapply (reached_at m ρ K (up c k, .inl ())); iexact HR
  iintro HO
  iapply Hk
  iexists W; iexact HO

/-- The wait for seven units: the slots of the seven other devices that this device copies into, and the cell at zero. -/
theorem wp_barrier (c : Dev nD) (a : ℕ) (ha : a = 7)
    {α : Type} {Q : α → sProp 𝕄} {kont : PUnit → Prog (TpuEff nD τ sig (Elt F) Λ₀ .tc) α} :
    iprop(records m ρ K ∗ levAts L lv ∗ owing c (oweB c []) ∗ barKit c)
      ⊢ iprop((iprop(owing c (oweB c []) ∗ semVal (barCell c) 0 ∗ bigSep Finset.univ (fun d => barPay c d)) -∗ wpc c (kont ⟨⟩) Q)
          -∗ wpc c (.op (.semWait barS a) kont) Q) := by
  subst ha
  unfold barKit owing
  iintro ⟨#HR, #Hlev, ⟨%W, HO⟩, Hc, Hat⟩ Hk
  iapply (Rounds.wp_wait_rest_token 𝒱₀ ER (sched m ρ) (c : Thread nD τ) none (κ := K (c, .inl ()))
      (wpE_semWait_eq 𝒱₀ (c : Thread nD τ) none Set.univ) (Set.mem_univ _) () (O := oweB c []) (W := W) (R := 0) (m := 0) (T := ∅)
      (by rw [expect_bar])) $$ [Hc HO Hat]
  · isplitr; · iapply (inv_at m ρ K (c, .inl ())); iexact HR
    isplitl [Hc]; · iexact Hc
    isplitl [HO]; · iexact HO
    isplitr; · iapply (mayWait_bar c); iexact Hlev
    iexact Hat
  iintro ⟨HO, Hat, -, Hpay⟩
  imod (Rounds.cell_close ER (sched m ρ) (Set.mem_univ (K (c, .inl ()))) (fun h => h) (R := 0 + 1) (duties_later m ρ (barCell c))) $$ [Hat] with Hz
  · isplitr; · iapply (inv_at m ρ K (c, .inl ())); iexact HR
    iexact Hat
  ihave Hp := (Entails.of_eq (rest_bar m ρ c)) $$ Hpay
  iapply Hk
  isplitl [HO]; · iexists _; iexact HO
  isplitl [Hz]; · iexact Hz
  iexact Hp

/-! ## The copies -/

/-- A copy of slot `k` leaves in the receive buffer's slot what the send buffer's slot held. -/
theorem landed (k : Fin 7) (fd : (cc0_scratch3 : Ref sig .tc).ty.Contents (Elt F)) (fs : (cc0_scratch2 : Ref sig .tc).ty.Contents (Elt F)) :
    recvM.view.readAt (Elt F) (slotR k).toLoadRect ((recvSlot k).view.write (Elt F) fd ((sendSlot k).view.read (Elt F) fs) Finset.univ)
      = sendM.view.readAt (Elt F) (slotR k).toLoadRect fs := by
  have h := View.read_write_univ (v := (recvSlot k).view) (Val := Elt F) fd ((sendSlot k).view.read (Elt F) fs)
  rw [Memref.read_squeeze_slice recvM (slotR k) (fun _ => rfl) squeezes_S1x256x1024_S256x1024 shapeCasts_S1x256x1024_S256x1024,
    Memref.read_squeeze_slice sendM (slotR k) (fun _ => rfl) squeezes_S1x256x1024_S256x1024 shapeCasts_S1x256x1024_S256x1024] at h
  have h' := congrArg (fun w => shapeCast S1x256x1024 w shapeCasts_S256x1024_S1x256x1024) h
  simp only [shapeCast_shapeCast] at h'
  exact h'

theorem credit_recv (k : Fin 7) : (recvSlot k).view.dmaCredit = N := rfl
theorem credit_send (k : Fin 7) : (sendSlot k).view.dmaCredit = N := rfl

/-- The copy for shift `k`: slot `k` of the send buffer, holding `sent c k`, goes to slot `k` of device `dn c k`. -/
theorem wp_copy_k (c : Dev nD) (k : Fin 7) (ks : List (Fin 7)) (n : Dev nD) (hn : n = dn c k)
    (src dst : Memref sig .tc .vmem S256x1024 .bf16) (hs : src = sendSlot k) (hd : dst = recvSlot k)
    (sS rS : SemLoc sig) (hsS : sS = .dma (sendS k)) (hrS : rS = .dma (recvS k))
    {hsc : (dst : Memref sig (Dev.tc n : Thread nD τ).2.kind .vmem S256x1024 .bf16).view.ref.isScScratch = false}
    {hsrc : src.view.WordExact} {hdst : (dst : Memref sig (Dev.tc n : Thread nD τ).2.kind .vmem S256x1024 .bf16).view.WordExact}
    {hsem : DmaTarget.Typed .vmem rS (.remote (Dev.tc n : Thread nD τ) dst sS hsc)}
    (f : Buf (Elt F) ((sendSlot k).view.loc (c : Thread nD τ)))
    (hf : sendM.view.readAt (Elt F) (slotR k).toLoadRect f = sent m ρ c k)
    {α : Type} {Q : α → sProp 𝕄} {kont : PUnit → Prog (TpuEff nD τ sig (Elt F) Λ₀ .tc) α} :
    iprop(records m ρ K ∗ owing c (oweR c (k :: ks)) ∗ sendKit c k ∗ sendPts c k f ∗ barPay c k)
      ⊢ iprop((iprop(owing c (oweR c ks) ∗ sendDue c k) -∗ wpc c (kont ⟨⟩) Q)
          -∗ wpc c (.op (.enqueueDma src (.remote (Dev.tc n : Thread nD τ) dst sS hsc) rS hsrc hdst hsem) kont) Q) := by
  subst hn hs hd hsS hrS
  unfold sendKit barPay owing
  iintro ⟨#HR, ⟨%W, HO⟩, ⟨HtS, HtR, Hat⟩, Hs, ⟨%fn, Hd⟩⟩ Hk
  unfold sendPts recvPts
  iapply (Rounds.wp_send_pointsTo 𝒱₀ ER (sched m ρ) (c : Thread nD τ) none (κ₁ := K (c, .inr (.inl k))) (κ₂ := K (dn c k, .inr (.inr k)))
    (r₁ := 0) (r₂ := 0) (d₁ := 0) (d₂ := 0) (fd := fn)
    (by rw [duties_send]; exact Finset.mem_singleton_self _) (by rw [duties_recv]; exact Finset.mem_singleton_self _)
    () () N (by exact credit_recv k) (amount_send m ρ c k 0) (amount_recv m ρ (dn c k) k 0) (oweR c ks) rfl (W := W)
    (by rw [payload_send]; unfold sendPay sendPts; iintro H; iexists f; iexact H)
    (by
      rw [payload_recv]; unfold recvPay recvPts; rw [up_dn]
      iintro H; iexists _; isplitr; · ipureintro; exact (landed k fn f).trans hf
      iexact H)) $$ [HO HtS HtR Hs Hd]
  · isplitr; · iapply (inv_at m ρ K (c, .inr (.inl k))); iexact HR
    isplitr; · iapply (inv_at m ρ K (dn c k, .inr (.inr k))); iexact HR
    isplitl [Hs]; · iexact Hs
    isplitl [Hd]; · iexact Hd
    isplitl [HO]; · iexact HO
    isplitl [HtS]; · iexact HtS
    isplitr; · iapply (reached_at m ρ K (c, .inr (.inl k))); iexact HR
    isplitl [HtR]; · iexact HtR
    iapply (reached_at m ρ K (dn c k, .inr (.inr k))); iexact HR
  iintro ⟨Hc, HO⟩
  iapply Hk
  isplitl [HO]; · iexists W; iexact HO
  unfold sendDue
  isplitl [Hc]; · iexact Hc
  iexact Hat

/-! ## The waits for the copies -/

/-- The wait for the part of shift `k`: the slot holds what device `up c k` sent; the cell is at zero. -/
theorem wp_recv_k (c : Dev nD) (k : Fin 7) (src dst : Memref sig .tc .vmem S256x1024 .bf16) (hd : dst = recvSlot k)
    (rS : DmaSem sig) (hrS : rS = recvS k) {hsrc : src.view.WordExact} {hdst : dst.view.WordExact}
    {α : Type} {Q : α → sProp 𝕄} {kont : PUnit → Prog (TpuEff nD τ sig (Elt F) Λ₀ .tc) α} :
    iprop(records m ρ K ∗ owing c 0 ∗ recvKit c k)
      ⊢ iprop((iprop(owing c 0 ∗ semVal (recvCell c k) 0 ∗ recvPay m ρ c k) -∗ wpc c (kont ⟨⟩) Q)
          -∗ wpc c (.op (.waitDma2 rS src dst hsrc hdst) kont) Q) := by
  subst hd hrS
  unfold recvKit owing
  iintro ⟨#HR, ⟨%W, HO⟩, Hc, Hat⟩ Hk
  iapply (Rounds.wp_wait_rest_token 𝒱₀ ER (sched m ρ) (c : Thread nD τ) none (κ := K (c, .inr (.inr k)))
      (wpE_waitDma2_eq 𝒱₀ (c : Thread nD τ) none Set.univ) (Set.mem_univ _) () (O := 0) (W := W) (R := 0) (m := 0) (T := ∅)
      (by rw [Nat.zero_add, expect_recv])) $$ [Hc HO Hat]
  · isplitr; · iapply (inv_at m ρ K (c, .inr (.inr k))); iexact HR
    isplitl [Hc]; · iexact Hc
    isplitl [HO]; · iexact HO
    isplitr; · rw [MayWait_zero]; iempintro
    iexact Hat
  iintro ⟨HO, Hat, -, Hpay⟩
  imod (Rounds.cell_close ER (sched m ρ) (Set.mem_univ (K (c, .inr (.inr k)))) (fun h => h) (R := 0 + 1) (duties_later m ρ (recvCell c k))) $$ [Hat] with Hz
  · isplitr; · iapply (inv_at m ρ K (c, .inr (.inr k))); iexact HR
    iexact Hat
  ihave Hp := (Entails.of_eq (rest_recv m ρ c k)) $$ Hpay
  iapply Hk
  isplitl [HO]; · iexists _; iexact HO
  isplitl [Hz]; · iexact Hz
  iexact Hp

/-- The wait for the end of the own copy of shift `k`: its slot comes back; the cell is at zero. -/
theorem wp_sent_k (c : Dev nD) (k : Fin 7) (src dst : Memref sig .tc .vmem S256x1024 .bf16) (hd : dst = sendSlot k)
    (sS : DmaSem sig) (hsS : sS = sendS k) {hsrc : src.view.WordExact} {hdst : dst.view.WordExact}
    {α : Type} {Q : α → sProp 𝕄} {kont : PUnit → Prog (TpuEff nD τ sig (Elt F) Λ₀ .tc) α} :
    iprop(records m ρ K ∗ owing c 0 ∗ sendDue c k)
      ⊢ iprop((iprop(owing c 0 ∗ sendDone c k) -∗ wpc c (kont ⟨⟩) Q)
          -∗ wpc c (.op (.waitDma2 sS src dst hsrc hdst) kont) Q) := by
  subst hd hsS
  unfold sendDue owing
  iintro ⟨#HR, ⟨%W, HO⟩, Hc, Hat⟩ Hk
  iapply (Rounds.wp_wait_rest_token 𝒱₀ ER (sched m ρ) (c : Thread nD τ) none (κ := K (c, .inr (.inl k)))
      (wpE_waitDma2_eq 𝒱₀ (c : Thread nD τ) none Set.univ) (Set.mem_univ _) () (O := 0) (W := W) (R := 0) (m := 0) (T := ∅)
      (by rw [Nat.zero_add, expect_send])) $$ [Hc HO Hat]
  · isplitr; · iapply (inv_at m ρ K (c, .inr (.inl k))); iexact HR
    isplitl [Hc]; · iexact Hc
    isplitl [HO]; · iexact HO
    isplitr; · rw [MayWait_zero]; iempintro
    iexact Hat
  iintro ⟨HO, Hat, -, Hpay⟩
  imod (Rounds.cell_close ER (sched m ρ) (Set.mem_univ (K (c, .inr (.inl k)))) (fun h => h) (R := 0 + 1) (duties_later m ρ (sendCell c k))) $$ [Hat] with Hz
  · isplitr; · iapply (inv_at m ρ K (c, .inr (.inl k))); iexact HR
    iexact Hat
  ihave Hp := (Entails.of_eq (rest_send m ρ c k)) $$ Hpay
  iapply Hk
  isplitl [HO]; · iexists _; iexact HO
  unfold sendDone
  isplitl [Hz]; · iexact Hz
  unfold sendPay
  iexact Hp

/-! ## Slots of the send and the receive buffer -/

theorem send_set (k : Fin 7) : (sendSlot k).view.set = (sendM.access (slotR k)).set := by
  show ((sendM.view.slice (slotR k)).reshape _ _).set = _
  rw [View.set_reshape]
theorem recv_set (k : Fin 7) : (recvSlot k).view.set = (recvM.access (slotR k)).set := by
  show ((recvM.view.slice (slotR k)).reshape _ _).set = _
  rw [View.set_reshape]

/-- Reading slot `k` of the send buffer. -/
theorem wp_load_send (c : Dev nD) (k : Fin 7) (r : Rect S7x256x1024) (hr : r = slotR k)
    (f : Buf (Elt F) ((sendSlot k).view.loc (c : Thread nD τ))) {hl : sendM.view.LoadsAt r.toLoadRect}
    {α : Type} {Q : α → sProp 𝕄} {kont : _ → Prog (TpuEff nD τ sig (Elt F) Λ₀ .tc) α} :
    sendPts c k f ⊢ iprop((sendPts c k f -∗ wpc c (kont (sendM.view.readAt (Elt F) r.toLoadRect f)) Q)
      -∗ wpc c (.op (.load sendM r.toLoadRect hl) kont) Q) := by
  subst hr
  unfold sendPts
  rw [send_set]
  exact wp_load_rect 𝒱₀ (c : Thread nD τ) none Set.univ (m := sendM) (Finset.Subset.refl _)

/-- Reading slot `k` of the receive buffer. -/
theorem wp_load_recv (c : Dev nD) (k : Fin 7) (r : Rect S7x256x1024) (hr : r = slotR k)
    (f : Buf (Elt F) ((recvSlot k).view.loc (c : Thread nD τ))) {hl : recvM.view.LoadsAt r.toLoadRect}
    {α : Type} {Q : α → sProp 𝕄} {kont : _ → Prog (TpuEff nD τ sig (Elt F) Λ₀ .tc) α} :
    recvPts c k f ⊢ iprop((recvPts c k f -∗ wpc c (kont (recvM.view.readAt (Elt F) r.toLoadRect f)) Q)
      -∗ wpc c (.op (.load recvM r.toLoadRect hl) kont) Q) := by
  subst hr
  unfold recvPts
  rw [recv_set]
  exact wp_load_rect 𝒱₀ (c : Thread nD τ) none Set.univ (m := recvM) (Finset.Subset.refl _)

/-- Filling slot `k` of the send buffer. -/
theorem wp_store_send (c : Dev nD) (k : Fin 7) (w : FVec F S1x256x1024 .bf16)
    (f : Buf (Elt F) ((sendSlot k).view.loc (c : Thread nD τ))) {hx : (sendM.access (slotR k)).Stores Finset.univ}
    {hm : (Finset.univ : Finset (slotR k).shape.Idx) = Finset.univ ∨ ∀ a, (slotR k).stride a = 1}
    {α : Type} {Q : α → sProp 𝕄} {kont : _ → Prog (TpuEff nD τ sig (Elt F) Λ₀ .tc) α} :
    sendPts c k f ⊢ iprop((iprop(∃ g, ⌜sendM.view.readAt (Elt F) (slotR k).toLoadRect g = w⌝ ∗ sendPts c k g) -∗ wpc c (kont ⟨⟩) Q)
      -∗ wpc c (.op (.store sendM (slotR k) w Finset.univ hx hm) kont) Q) := by
  unfold sendPts
  rw [send_set]
  iintro H Hk
  iapply (wp_store 𝒱₀ (c : Thread nD τ) none Set.univ (m := sendM) (r := slotR k) (Mk := Finset.univ) (by rw [View.setOn_univ])) $$ H
  iintro H
  iapply Hk
  iexists _; isplitr
  · ipureintro; exact View.read_write_univ (v := sendM.access (slotR k)) (Val := Elt F) f w
  iexact H

end Cert.Moe

end
-- ==== Proof.Local.lean ====
/-
# The steps of the body that stay on the device

Loads of the staged operands, of the weights and of the rounded experts, each naming what is read; stores of the weights,
the experts and the running sum, each naming what is left.
-/
module

public import proofs.«01_k».proof.Proof.Steps

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- A whole buffer of device `c`, holding `X`. -/
abbrev holds (c : Dev nD) (b : Ref sig .tc) (X : Buf (Elt F) ((c : Thread nD τ).loc b)) : sProp 𝕄 := ((c : Thread nD τ).loc b) ↦{fullShare} X

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- A buffer of the core, as a reference and as a memref. -/
abbrev vref {cs : CoreSpace} {i : Fin (sig.nNear .tc cs)} (hκ : sig.names .tc cs i = true) : Ref sig .tc := ⟨cs, i, hκ⟩
abbrev vmem {cs : CoreSpace} {i : Fin (sig.nNear .tc cs)} (hκ : sig.names .tc cs i = true) : Memref sig .tc (.core cs) (vref hκ).ty.shape (vref hκ).ty.elt :=
  Memref.whole (vref hκ)

section Loads
theorem hz2 : (![0, 0] : Fin 2 → Nat) = fun _ => 0 := funext fun a => by fin_cases a <;> rfl
theorem hz3 : (![0, 0, 0] : Fin 3 → Nat) = fun _ => 0 := funext fun a => by fin_cases a <;> rfl

/-- Loading a buffer through the rectangle that is all of it reads its contents. -/
theorem wp_load_all (c : Dev nD) {cs : CoreSpace} {i : Fin (sig.nNear .tc cs)} {hκ : sig.names .tc cs i = true} {off : Fin (vref hκ).ty.shape.rank → Nat} (ho : off = fun _ => 0)
    {inb : ∀ a, off a + (vref hκ).ty.shape.size a ≤ (vref hκ).ty.shape.size a} (X : Buf (Elt F) ((c : Thread nD τ).loc (vref hκ)))
    {hl : (vmem hκ).view.LoadsAt (Rect.unit off (vref hκ).ty.shape.size inb).toLoadRect}
    {α : Type} {Q : α → sProp 𝕄} {kont : ((Rect.unit off (vref hκ).ty.shape.size inb).toLoadRect.shape.Idx → Elt F (vref hκ).ty.elt) → Prog (TpuEff nD τ sig (Elt F) Λ₀ .tc) α} :
    holds c (vref hκ) X ⊢ iprop((holds c (vref hκ) X -∗ wpc c (kont X) Q)
      -∗ wpc c (.op (.load (vmem hκ) (Rect.unit off (vref hκ).ty.shape.size inb).toLoadRect hl) kont) Q) := by
  iintro H Hk
  iapply (wp_load 𝒱₀ (c : Thread nD τ) none Set.univ (m := vmem hκ) (S := Finset.univ) (Finset.subset_univ _)) $$ H; iintro H
  rw [Memref.readAt_unit_zero (Elt F) (vref hκ) ho inb X]
  iapply Hk; iexact H

/-- Storing through the rectangle that is all of a buffer leaves what is stored. -/
theorem wp_store_all (c : Dev nD) {cs : CoreSpace} {i : Fin (sig.nNear .tc cs)} {hκ : sig.names .tc cs i = true} {off : Fin (vref hκ).ty.shape.rank → Nat} (ho : off = fun _ => 0)
    {inb : ∀ a, off a + (vref hκ).ty.shape.size a ≤ (vref hκ).ty.shape.size a} (X : Buf (Elt F) ((c : Thread nD τ).loc (vref hκ)))
    {w : (vref hκ).ty.Contents (Elt F)} (Y : (vref hκ).ty.Contents (Elt F)) (hw : w = Y)
    {hx : ((vmem hκ).access (Rect.unit off (vref hκ).ty.shape.size inb)).Stores Finset.univ}
    {hm : (Finset.univ : Finset (Rect.unit off (vref hκ).ty.shape.size inb).shape.Idx) = Finset.univ ∨ ∀ a, (Rect.unit off (vref hκ).ty.shape.size inb).stride a = 1}
    {α : Type} {Q : α → sProp 𝕄} {kont : _ → Prog (TpuEff nD τ sig (Elt F) Λ₀ .tc) α} :
    holds c (vref hκ) X ⊢ iprop((holds c (vref hκ) Y -∗ wpc c (kont ⟨⟩) Q)
      -∗ wpc c (.op (.store (vmem hκ) (Rect.unit off (vref hκ).ty.shape.size inb) w Finset.univ hx hm) kont) Q) := by
  subst hw
  iintro H Hk
  iapply (wp_store 𝒱₀ (c : Thread nD τ) none Set.univ (m := vmem hκ) (r := Rect.unit off (vref hκ).ty.shape.size inb) (Mk := Finset.univ) (S := Finset.univ) (Finset.subset_univ _)) $$ H; iintro H
  rw [Memref.write_access_unit_zero_univ (Elt F) (vref hκ) ho inb X w]
  iapply Hk; iexact H

/-- Loading the rows of device `d`'s chunk. -/
theorem wp_load_rows (c d : Dev nD) {off : Fin 2 → Nat} (ho : off = ![256 * d.val, 0]) {inb : ∀ a, off a + S256x512.size a ≤ S2048x512.size a}
    {hl : xM.view.LoadsAt (Rect.unit (s := S2048x512) off S256x512.size inb).toLoadRect}
    {α : Type} {Q : α → sProp 𝕄} {kont : ((Rect.unit (s := S2048x512) off S256x512.size inb).toLoadRect.shape.Idx → Elt F .f32) → Prog (TpuEff nD τ sig (Elt F) Λ₀ .tc) α} :
    holds c cc0_stg0_0 (xStg m ρ c) ⊢ iprop((holds c cc0_stg0_0 (xStg m ρ c) -∗ wpc c (kont (rowsOf m ρ c d)) Q)
      -∗ wpc c (.op (.load xM (Rect.unit (s := S2048x512) off S256x512.size inb).toLoadRect hl) kont) Q) := by
  subst ho
  exact wp_load 𝒱₀ (c : Thread nD τ) none Set.univ (m := xM) (S := Finset.univ) (Finset.subset_univ _)

/-- Loading the weights of the rows of device `d`'s chunk. -/
theorem wp_load_wrows (c d : Dev nD) {off : Fin 2 → Nat} (ho : off = ![256 * d.val, 0]) {inb : ∀ a, off a + S256x8.size a ≤ S2048x8.size a}
    {hl : wtM.view.LoadsAt (Rect.unit (s := S2048x8) off S256x8.size inb).toLoadRect}
    {α : Type} {Q : α → sProp 𝕄} {kont : ((Rect.unit (s := S2048x8) off S256x8.size inb).toLoadRect.shape.Idx → Elt F .f32) → Prog (TpuEff nD τ sig (Elt F) Λ₀ .tc) α} :
    holds c cc0_scratch0 (weights m ρ c) ⊢ iprop((holds c cc0_scratch0 (weights m ρ c) -∗ wpc c (kont (wrowsOf m ρ c d)) Q)
      -∗ wpc c (.op (.load wtM (Rect.unit (s := S2048x8) off S256x8.size inb).toLoadRect hl) kont) Q) := by
  subst ho
  exact wp_load 𝒱₀ (c : Thread nD τ) none Set.univ (m := wtM) (S := Finset.univ) (Finset.subset_univ _)

/-- Loading expert `e`. -/
theorem wp_load_expert (c : Dev nD) (e : Fin 8) {off : Fin 3 → Nat} (ho : off = ![e.val, 0, 0]) {inb : ∀ a, off a + S1x512x1024.size a ≤ S8x512x1024.size a}
    {hl : ebM.view.LoadsAt (Rect.unit (s := S8x512x1024) off S1x512x1024.size inb).toLoadRect}
    {α : Type} {Q : α → sProp 𝕄} {kont : ((Rect.unit (s := S8x512x1024) off S1x512x1024.size inb).toLoadRect.shape.Idx → Elt F .bf16) → Prog (TpuEff nD τ sig (Elt F) Λ₀ .tc) α} :
    holds c cc0_scratch1 (experts m ρ c) ⊢ iprop((holds c cc0_scratch1 (experts m ρ c) -∗ wpc c (kont (expertOf m ρ c e)) Q)
      -∗ wpc c (.op (.load ebM (Rect.unit (s := S8x512x1024) off S1x512x1024.size inb).toLoadRect hl) kont) Q) := by
  subst ho
  exact wp_load 𝒱₀ (c : Thread nD τ) none Set.univ (m := ebM) (S := Finset.univ) (Finset.subset_univ _)

/-- Loading column `j` of the expert numbers. -/
theorem wp_load_idx (c : Dev nD) (j : Fin 2) {off : Fin 2 → Nat} (ho : off = ![0, j.val]) {inb : ∀ a, off a + S2048x1.size a ≤ S2048x2.size a}
    {hl : idxM.view.LoadsAt (Rect.unit (s := S2048x2) off S2048x1.size inb).toLoadRect}
    {α : Type} {Q : α → sProp 𝕄} {kont : ((Rect.unit (s := S2048x2) off S2048x1.size inb).toLoadRect.shape.Idx → Elt F .i32) → Prog (TpuEff nD τ sig (Elt F) Λ₀ .tc) α} :
    holds c cc0_stg2_0 (idxStg m ρ c) ⊢ iprop((holds c cc0_stg2_0 (idxStg m ρ c) -∗ wpc c (kont (idxM.view.readAt (Elt F) (idxR j).toLoadRect (idxStg m ρ c))) Q)
      -∗ wpc c (.op (.load idxM (Rect.unit (s := S2048x2) off S2048x1.size inb).toLoadRect hl) kont) Q) := by
  subst ho
  exact wp_load 𝒱₀ (c : Thread nD τ) none Set.univ (m := idxM) (S := Finset.univ) (Finset.subset_univ _)

end Loads

/-! ## Received parts -/

/-- Loading the received part: it is what `up c k` sent. -/
theorem wp_load_part (c : Dev nD) (k : Fin 7) {off : Fin 3 → Nat} (ho : off = ![k.val, 0, 0]) {inb : ∀ a, off a + S1x256x1024.size a ≤ S7x256x1024.size a}
    {hl : recvM.view.LoadsAt (Rect.unit (s := S7x256x1024) off S1x256x1024.size inb).toLoadRect}
    {α : Type} {Q : α → sProp 𝕄} {kont : ((Rect.unit (s := S7x256x1024) off S1x256x1024.size inb).toLoadRect.shape.Idx → Elt F .bf16) → Prog (TpuEff nD τ sig (Elt F) Λ₀ .tc) α} :
    iprop(semVal (recvCell c k) 0 ∗ recvPay m ρ c k) ⊢ iprop((recvDone c k -∗ wpc c (kont (sent m ρ (up c k) k)) Q)
      -∗ wpc c (.op (.load recvM (Rect.unit (s := S7x256x1024) off S1x256x1024.size inb).toLoadRect hl) kont) Q) := by
  subst ho
  unfold recvPay
  iintro ⟨Hz, ⟨%f, %hf, H⟩⟩ Hk
  iapply (wp_load_recv c k (slotR k) rfl f) $$ H
  iintro H
  rw [hf]
  iapply Hk
  unfold recvDone
  isplitl [Hz]; · iexact Hz
  iexists f; iexact H

/-- Filling slot `k` of the send buffer, whatever was there, with a load of the slot before. -/
theorem wp_fill (c : Dev nD) (k : Fin 7) {off off' : Fin 3 → Nat} (ho : off = ![k.val, 0, 0]) (ho' : off' = ![k.val, 0, 0])
    {inb : ∀ a, off a + S1x256x1024.size a ≤ S7x256x1024.size a} {inb' : ∀ a, off' a + S1x256x1024.size a ≤ S7x256x1024.size a}
    {hl : sendM.view.LoadsAt (Rect.unit (s := S7x256x1024) off S1x256x1024.size inb).toLoadRect}
    {w : FVec F S1x256x1024 .bf16} (hw : w = sent m ρ c k)
    {hx : (sendM.access (Rect.unit (s := S7x256x1024) off' S1x256x1024.size inb')).Stores Finset.univ}
    {hm : (Finset.univ : Finset (Rect.unit (s := S7x256x1024) off' S1x256x1024.size inb').shape.Idx) = Finset.univ ∨ ∀ a, (Rect.unit (s := S7x256x1024) off' S1x256x1024.size inb').stride a = 1}
    {α : Type} {Q : α → sProp 𝕄} {kont : _ → Prog (TpuEff nD τ sig (Elt F) Λ₀ .tc) α} :
    iprop(∃ f, sendPts c k f) ⊢ iprop((iprop(∃ g, ⌜sendM.view.readAt (Elt F) (slotR k).toLoadRect g = sent m ρ c k⌝ ∗ sendPts c k g) -∗ wpc c (kont ⟨⟩) Q)
      -∗ wpc c (.op (.load sendM (Rect.unit (s := S7x256x1024) off S1x256x1024.size inb).toLoadRect hl) fun _ =>
          .op (.store sendM (Rect.unit (s := S7x256x1024) off' S1x256x1024.size inb') w Finset.univ hx hm) kont) Q) := by
  subst ho ho' hw
  iintro ⟨%f, H⟩ Hk
  iapply (wp_load_send c k (slotR k) rfl f) $$ H
  iintro H
  iapply (wp_store_send c k (sent m ρ c k) f) $$ H
  iintro H
  iapply Hk
  iexact H

end Cert.Moe

end
-- ==== Proof.Stretch.lean ====
/-
# Whole stretches of the body

The ten loads that compute a chunk; computing, storing and copying the chunk for one shift; waiting for one part and
adding it. Each is stated once for every shift.
-/
module

public import proofs.«01_k».proof.Proof.Local

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- What computing a chunk reads: the activations, the weights and the rounded experts. -/
def inputs (c : Dev nD) : sProp 𝕄 :=
  iprop(holds c cc0_stg0_0 (xStg m ρ c) ∗ holds c cc0_scratch0 (weights m ρ c) ∗ holds c cc0_scratch1 (experts m ρ c))

/-- The ten loads of one chunk. -/
theorem wp_read_chunk (c d : Dev nD) {offx offw : Fin 2 → Nat}
    (hox : offx = ![256 * d.val, 0]) (how : offw = ![256 * d.val, 0])
    {inbx : ∀ a, offx a + S256x512.size a ≤ S2048x512.size a} {inbw : ∀ a, offw a + S256x8.size a ≤ S2048x8.size a}
    {lx : xM.view.LoadsAt (Rect.unit (s := S2048x512) offx S256x512.size inbx).toLoadRect}
    {lw : wtM.view.LoadsAt (Rect.unit (s := S2048x8) offw S256x8.size inbw).toLoadRect}
    {l0 : ebM.view.LoadsAt (Rect.unit (s := S8x512x1024) ![0, 0, 0] S1x512x1024.size inb_S8x512x1024_S1x512x1024_0_0_0).toLoadRect}
    {l1 : ebM.view.LoadsAt (Rect.unit (s := S8x512x1024) ![1, 0, 0] S1x512x1024.size inb_S8x512x1024_S1x512x1024_1_0_0).toLoadRect}
    {l2 : ebM.view.LoadsAt (Rect.unit (s := S8x512x1024) ![2, 0, 0] S1x512x1024.size inb_S8x512x1024_S1x512x1024_2_0_0).toLoadRect}
    {l3 : ebM.view.LoadsAt (Rect.unit (s := S8x512x1024) ![3, 0, 0] S1x512x1024.size inb_S8x512x1024_S1x512x1024_3_0_0).toLoadRect}
    {l4 : ebM.view.LoadsAt (Rect.unit (s := S8x512x1024) ![4, 0, 0] S1x512x1024.size inb_S8x512x1024_S1x512x1024_4_0_0).toLoadRect}
    {l5 : ebM.view.LoadsAt (Rect.unit (s := S8x512x1024) ![5, 0, 0] S1x512x1024.size inb_S8x512x1024_S1x512x1024_5_0_0).toLoadRect}
    {l6 : ebM.view.LoadsAt (Rect.unit (s := S8x512x1024) ![6, 0, 0] S1x512x1024.size inb_S8x512x1024_S1x512x1024_6_0_0).toLoadRect}
    {l7 : ebM.view.LoadsAt (Rect.unit (s := S8x512x1024) ![7, 0, 0] S1x512x1024.size inb_S8x512x1024_S1x512x1024_7_0_0).toLoadRect}
    {α : Type} {Q : α → sProp 𝕄}
    {kont : Vec F S256x512 .f32 → Vec F S256x8 .f32 → Vec F S1x512x1024 .bf16 → Vec F S1x512x1024 .bf16 → Vec F S1x512x1024 .bf16 → Vec F S1x512x1024 .bf16 → Vec F S1x512x1024 .bf16 → Vec F S1x512x1024 .bf16 → Vec F S1x512x1024 .bf16 → Vec F S1x512x1024 .bf16 → Prog (TpuEff nD τ sig (Elt F) Λ₀ .tc) α} :
    inputs m ρ c ⊢ iprop((inputs m ρ c -∗ wpc c (kont (rowsOf m ρ c d) (wrowsOf m ρ c d) (expertOf m ρ c 0) (expertOf m ρ c 1) (expertOf m ρ c 2) (expertOf m ρ c 3) (expertOf m ρ c 4) (expertOf m ρ c 5) (expertOf m ρ c 6) (expertOf m ρ c 7)) Q)
      -∗ wpc c (.op (.load xM (Rect.unit (s := S2048x512) offx S256x512.size inbx).toLoadRect lx) fun a =>
          .op (.load wtM (Rect.unit (s := S2048x8) offw S256x8.size inbw).toLoadRect lw) fun b =>
          .op (.load ebM (Rect.unit (s := S8x512x1024) ![0, 0, 0] S1x512x1024.size inb_S8x512x1024_S1x512x1024_0_0_0).toLoadRect l0) fun e0 =>
          .op (.load ebM (Rect.unit (s := S8x512x1024) ![1, 0, 0] S1x512x1024.size inb_S8x512x1024_S1x512x1024_1_0_0).toLoadRect l1) fun e1 =>
          .op (.load ebM (Rect.unit (s := S8x512x1024) ![2, 0, 0] S1x512x1024.size inb_S8x512x1024_S1x512x1024_2_0_0).toLoadRect l2) fun e2 =>
          .op (.load ebM (Rect.unit (s := S8x512x1024) ![3, 0, 0] S1x512x1024.size inb_S8x512x1024_S1x512x1024_3_0_0).toLoadRect l3) fun e3 =>
          .op (.load ebM (Rect.unit (s := S8x512x1024) ![4, 0, 0] S1x512x1024.size inb_S8x512x1024_S1x512x1024_4_0_0).toLoadRect l4) fun e4 =>
          .op (.load ebM (Rect.unit (s := S8x512x1024) ![5, 0, 0] S1x512x1024.size inb_S8x512x1024_S1x512x1024_5_0_0).toLoadRect l5) fun e5 =>
          .op (.load ebM (Rect.unit (s := S8x512x1024) ![6, 0, 0] S1x512x1024.size inb_S8x512x1024_S1x512x1024_6_0_0).toLoadRect l6) fun e6 =>
          .op (.load ebM (Rect.unit (s := S8x512x1024) ![7, 0, 0] S1x512x1024.size inb_S8x512x1024_S1x512x1024_7_0_0).toLoadRect l7) fun e7 =>
          kont a b e0 e1 e2 e3 e4 e5 e6 e7) Q) := by
  unfold inputs
  iintro ⟨Hx, Hw, He⟩ Hk
  iapply (wp_load_rows m ρ c d hox) $$ Hx; iintro Hx
  iapply (wp_load_wrows m ρ c d how) $$ Hw; iintro Hw
  iapply (wp_load_expert m ρ c 0 rfl) $$ He; iintro He
  iapply (wp_load_expert m ρ c 1 rfl) $$ He; iintro He
  iapply (wp_load_expert m ρ c 2 rfl) $$ He; iintro He
  iapply (wp_load_expert m ρ c 3 rfl) $$ He; iintro He
  iapply (wp_load_expert m ρ c 4 rfl) $$ He; iintro He
  iapply (wp_load_expert m ρ c 5 rfl) $$ He; iintro He
  iapply (wp_load_expert m ρ c 6 rfl) $$ He; iintro He
  iapply (wp_load_expert m ρ c 7 rfl) $$ He; iintro He
  iapply Hk
  isplitl [Hx]; · iexact Hx
  isplitl [Hw]; · iexact Hw
  iexact He

/-- For shift `k`: the chunk of `dn c k` is computed, stored in slot `k` and copied to `dn c k`. -/
theorem wp_send_chunk (K : Dev nD × CIx → ℕ) (c : Dev nD) (k : Fin 7) (ks : List (Fin 7)) (d : Dev nD) (hd : d = dn c k) {offx offw : Fin 2 → Nat}
    (hox : offx = ![256 * d.val, 0]) (how : offw = ![256 * d.val, 0])
    {inbx : ∀ a, offx a + S256x512.size a ≤ S2048x512.size a} {inbw : ∀ a, offw a + S256x8.size a ≤ S2048x8.size a}
    {lx : xM.view.LoadsAt (Rect.unit (s := S2048x512) offx S256x512.size inbx).toLoadRect}
    {lw : wtM.view.LoadsAt (Rect.unit (s := S2048x8) offw S256x8.size inbw).toLoadRect}
    {l0 : ebM.view.LoadsAt (Rect.unit (s := S8x512x1024) ![0, 0, 0] S1x512x1024.size inb_S8x512x1024_S1x512x1024_0_0_0).toLoadRect}
    {l1 : ebM.view.LoadsAt (Rect.unit (s := S8x512x1024) ![1, 0, 0] S1x512x1024.size inb_S8x512x1024_S1x512x1024_1_0_0).toLoadRect}
    {l2 : ebM.view.LoadsAt (Rect.unit (s := S8x512x1024) ![2, 0, 0] S1x512x1024.size inb_S8x512x1024_S1x512x1024_2_0_0).toLoadRect}
    {l3 : ebM.view.LoadsAt (Rect.unit (s := S8x512x1024) ![3, 0, 0] S1x512x1024.size inb_S8x512x1024_S1x512x1024_3_0_0).toLoadRect}
    {l4 : ebM.view.LoadsAt (Rect.unit (s := S8x512x1024) ![4, 0, 0] S1x512x1024.size inb_S8x512x1024_S1x512x1024_4_0_0).toLoadRect}
    {l5 : ebM.view.LoadsAt (Rect.unit (s := S8x512x1024) ![5, 0, 0] S1x512x1024.size inb_S8x512x1024_S1x512x1024_5_0_0).toLoadRect}
    {l6 : ebM.view.LoadsAt (Rect.unit (s := S8x512x1024) ![6, 0, 0] S1x512x1024.size inb_S8x512x1024_S1x512x1024_6_0_0).toLoadRect}
    {l7 : ebM.view.LoadsAt (Rect.unit (s := S8x512x1024) ![7, 0, 0] S1x512x1024.size inb_S8x512x1024_S1x512x1024_7_0_0).toLoadRect}
    {off off' : Fin 3 → Nat} (ho : off = ![k.val, 0, 0]) (ho' : off' = ![k.val, 0, 0])
    {inb : ∀ a, off a + S1x256x1024.size a ≤ S7x256x1024.size a} {inb' : ∀ a, off' a + S1x256x1024.size a ≤ S7x256x1024.size a}
    {ls : sendM.view.LoadsAt (Rect.unit (s := S7x256x1024) off S1x256x1024.size inb).toLoadRect}
    (w : Vec F S256x512 .f32 → Vec F S256x8 .f32 → Vec F S1x512x1024 .bf16 → Vec F S1x512x1024 .bf16 → Vec F S1x512x1024 .bf16 → Vec F S1x512x1024 .bf16 → Vec F S1x512x1024 .bf16 → Vec F S1x512x1024 .bf16 → Vec F S1x512x1024 .bf16 → Vec F S1x512x1024 .bf16 → FVec F S1x256x1024 .bf16)
    (hw : w (rowsOf m ρ c d) (wrowsOf m ρ c d) (expertOf m ρ c 0) (expertOf m ρ c 1) (expertOf m ρ c 2) (expertOf m ρ c 3) (expertOf m ρ c 4) (expertOf m ρ c 5) (expertOf m ρ c 6) (expertOf m ρ c 7) = sent m ρ c k)
    {hx : (sendM.access (Rect.unit (s := S7x256x1024) off' S1x256x1024.size inb')).Stores Finset.univ}
    {hm : (Finset.univ : Finset (Rect.unit (s := S7x256x1024) off' S1x256x1024.size inb').shape.Idx) = Finset.univ ∨ ∀ a, (Rect.unit (s := S7x256x1024) off' S1x256x1024.size inb').stride a = 1}
    (n : Dev nD) (hn : n = dn c k)
    (src dst : Memref sig .tc .vmem S256x1024 .bf16) (hs : src = sendSlot k) (hdst' : dst = recvSlot k)
    (sS rS : SemLoc sig) (hsS : sS = .dma (sendS k)) (hrS : rS = .dma (recvS k))
    {hsc : (dst : Memref sig (Dev.tc n : Thread nD τ).2.kind .vmem S256x1024 .bf16).view.ref.isScScratch = false}
    {hsrc : src.view.WordExact} {hdst : (dst : Memref sig (Dev.tc n : Thread nD τ).2.kind .vmem S256x1024 .bf16).view.WordExact}
    {hsem : DmaTarget.Typed .vmem rS (.remote (Dev.tc n : Thread nD τ) dst sS hsc)}
    {α : Type} {Q : α → sProp 𝕄} {kont : PUnit → Prog (TpuEff nD τ sig (Elt F) Λ₀ .tc) α} :
    iprop(records m ρ K ∗ owing c (oweR c (k :: ks)) ∗ sendKit c k ∗ (∃ f, sendPts c k f) ∗ barPay c k ∗ inputs m ρ c)
      ⊢ iprop((iprop(owing c (oweR c ks) ∗ sendDue c k ∗ inputs m ρ c) -∗ wpc c (kont ⟨⟩) Q)
      -∗ wpc c (.op (.load xM (Rect.unit (s := S2048x512) offx S256x512.size inbx).toLoadRect lx) fun a =>
          .op (.load wtM (Rect.unit (s := S2048x8) offw S256x8.size inbw).toLoadRect lw) fun b =>
          .op (.load ebM (Rect.unit (s := S8x512x1024) ![0, 0, 0] S1x512x1024.size inb_S8x512x1024_S1x512x1024_0_0_0).toLoadRect l0) fun e0 =>
          .op (.load ebM (Rect.unit (s := S8x512x1024) ![1, 0, 0] S1x512x1024.size inb_S8x512x1024_S1x512x1024_1_0_0).toLoadRect l1) fun e1 =>
          .op (.load ebM (Rect.unit (s := S8x512x1024) ![2, 0, 0] S1x512x1024.size inb_S8x512x1024_S1x512x1024_2_0_0).toLoadRect l2) fun e2 =>
          .op (.load ebM (Rect.unit (s := S8x512x1024) ![3, 0, 0] S1x512x1024.size inb_S8x512x1024_S1x512x1024_3_0_0).toLoadRect l3) fun e3 =>
          .op (.load ebM (Rect.unit (s := S8x512x1024) ![4, 0, 0] S1x512x1024.size inb_S8x512x1024_S1x512x1024_4_0_0).toLoadRect l4) fun e4 =>
          .op (.load ebM (Rect.unit (s := S8x512x1024) ![5, 0, 0] S1x512x1024.size inb_S8x512x1024_S1x512x1024_5_0_0).toLoadRect l5) fun e5 =>
          .op (.load ebM (Rect.unit (s := S8x512x1024) ![6, 0, 0] S1x512x1024.size inb_S8x512x1024_S1x512x1024_6_0_0).toLoadRect l6) fun e6 =>
          .op (.load ebM (Rect.unit (s := S8x512x1024) ![7, 0, 0] S1x512x1024.size inb_S8x512x1024_S1x512x1024_7_0_0).toLoadRect l7) fun e7 =>
          .op (.load sendM (Rect.unit (s := S7x256x1024) off S1x256x1024.size inb).toLoadRect ls) fun _ =>
          .op (.store sendM (Rect.unit (s := S7x256x1024) off' S1x256x1024.size inb') (w a b e0 e1 e2 e3 e4 e5 e6 e7) Finset.univ hx hm) fun _ =>
          .op (.enqueueDma src (.remote (Dev.tc n : Thread nD τ) dst sS hsc) rS hsrc hdst hsem) kont) Q) := by
  iintro ⟨#HR, HO, HS, Hs, Hd, Hin⟩ Hk
  iapply (wp_read_chunk m ρ c d hox how) $$ Hin; iintro Hin
  iapply (wp_fill m ρ c k ho ho' hw) $$ Hs
  iintro ⟨%g, %hg, Hs⟩
  iapply (wp_copy_k m ρ K c k ks n hn src dst hs hdst' sS rS hsS hrS g hg) $$ [HO HS Hs Hd]
  · isplitr; · iexact HR
    isplitl [HO]; · iexact HO
    isplitl [HS]; · iexact HS
    isplitl [Hs]; · iexact Hs
    iexact Hd
  iintro ⟨HO, HD⟩
  iapply Hk
  isplitl [HO]; · iexact HO
  isplitl [HD]; · iexact HD
  iexact Hin

/-- For shift `k`: the part is awaited, read and added to the running sum. -/
theorem wp_add_part (K : Dev nD × CIx → ℕ) (c : Dev nD) (k : Fin 7) (src dst : Memref sig .tc .vmem S256x1024 .bf16) (hd : dst = recvSlot k)
    (rS : DmaSem sig) (hrS : rS = recvS k) {hsrc : src.view.WordExact} {hdst : dst.view.WordExact}
    {off : Fin 3 → Nat} (ho : off = ![k.val, 0, 0]) {inb : ∀ a, off a + S1x256x1024.size a ≤ S7x256x1024.size a}
    {la lc : outM.view.LoadsAt (Rect.unit (s := S256x1024) ![0, 0] S256x1024.size inb_S256x1024_S256x1024_0_0).toLoadRect}
    {lr : recvM.view.LoadsAt (Rect.unit (s := S7x256x1024) off S1x256x1024.size inb).toLoadRect}
    (X Y : FVec F S256x1024 .f32) (w : Vec F S256x1024 .f32 → Vec F S1x256x1024 .bf16 → FVec F S256x1024 .f32) (hw : w X (sent m ρ (up c k) k) = Y)
    {hx : (outM.access (Rect.unit (s := S256x1024) ![0, 0] S256x1024.size inb_S256x1024_S256x1024_0_0)).Stores Finset.univ}
    {hm : (Finset.univ : Finset (Rect.unit (s := S256x1024) ![0, 0] S256x1024.size inb_S256x1024_S256x1024_0_0).shape.Idx) = Finset.univ
      ∨ ∀ a, (Rect.unit (s := S256x1024) ![0, 0] S256x1024.size inb_S256x1024_S256x1024_0_0).stride a = 1}
    {α : Type} {Q : α → sProp 𝕄} {kont : PUnit → Prog (TpuEff nD τ sig (Elt F) Λ₀ .tc) α} :
    iprop(records m ρ K ∗ owing c 0 ∗ recvKit c k ∗ holds c cc0_stg4_0 X)
      ⊢ iprop((iprop(owing c 0 ∗ recvDone c k ∗ holds c cc0_stg4_0 Y) -∗ wpc c (kont ⟨⟩) Q)
      -∗ wpc c (.op (.waitDma2 rS src dst hsrc hdst) fun _ =>
          .op (.load outM (Rect.unit (s := S256x1024) ![0, 0] S256x1024.size inb_S256x1024_S256x1024_0_0).toLoadRect la) fun a =>
          .op (.load recvM (Rect.unit (s := S7x256x1024) off S1x256x1024.size inb).toLoadRect lr) fun r =>
          .op (.load outM (Rect.unit (s := S256x1024) ![0, 0] S256x1024.size inb_S256x1024_S256x1024_0_0).toLoadRect lc) fun _ =>
          .op (.store outM (Rect.unit (s := S256x1024) ![0, 0] S256x1024.size inb_S256x1024_S256x1024_0_0) (w a r) Finset.univ hx hm) kont) Q) := by
  iintro ⟨#HR, HO, HV, Hout⟩ Hk
  iapply (wp_recv_k m ρ K c k src dst hd rS hrS) $$ [HO HV]
  · isplitr; · iexact HR
    isplitl [HO]; · iexact HO
    iexact HV
  iintro ⟨HO, HA⟩
  iapply (wp_load_all c hz2 X) $$ Hout; iintro Hout
  iapply (wp_load_part m ρ c k ho) $$ HA; iintro HA
  iapply (wp_load_all c hz2 X) $$ Hout; iintro Hout
  iapply (wp_store_all c hz2 X Y hw) $$ Hout; iintro Hout
  iapply Hk
  isplitl [HO]; · iexact HO
  isplitl [HA]; · iexact HA
  iexact Hout

end Cert.Moe

end
-- ==== Proof.Body.lean ====
/-
# The body on one device

`run_body`: from its own buffers, its duties and its credits, a device runs the kernel to the end and leaves its result
buffer at `outAt`, every slot its own again and every semaphore at zero.
-/
module

public import proofs.«01_k».proof.Proof.Stretch

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × CIx → ℕ)

/-- The staged operands. -/
def operands (c : Dev nD) : sProp 𝕄 :=
  iprop(holds c cc0_stg0_0 (xStg m ρ c) ∗ holds c cc0_stg1_0 (rwStg m ρ c) ∗ holds c cc0_stg2_0 (idxStg m ρ c) ∗ holds c cc0_stg3_0 (ewStg m ρ c))

/-- What a device holds of the protocol when it starts. -/
def kits (c : Dev nD) : sProp 𝕄 :=
  iprop(barKit c ∗ (bigSep Finset.univ fun k => dutyTok ER (barCell (up c k)) 0 k)
    ∗ (bigSep Finset.univ fun k => sendKit c k) ∗ bigSep Finset.univ fun k => recvKit c k)

/-- The slots of its send and receive buffers, whatever they hold. -/
def slots (c : Dev nD) : sProp 𝕄 :=
  iprop((bigSep Finset.univ fun k => iprop(∃ f, sendPts c k f)) ∗ bigSep Finset.univ fun k => iprop(∃ f, recvPts c k f))

theorem wpc_ret (c : Dev nD) {α : Type} {Q : α → sProp 𝕄} {a : α} : Q a ⊢ wpc c (.ret a) Q := by
  unfold wpc; rw [wp_ret]; iintro H; imodintro; iexact H

theorem rows_dn (c : Dev nD) (k : Fin 7) : k0_off1 c (BitVec.ofNat 32 (1 + k.val)) = ![256 * (dn c k).val, 0] := by
  rw [k0_off1_eq]; revert c k; decide
theorem wrows_dn (c : Dev nD) (k : Fin 7) : k0_off2 c (BitVec.ofNat 32 (1 + k.val)) = ![256 * (dn c k).val, 0] := by
  rw [k0_off2_eq]; revert c k; decide

def runPre (c : Dev nD) : sProp 𝕄 :=
  iprop(records m ρ K ∗ levAts L lv ∗ owing c (O₀ c) ∗ kits c ∗ slots c ∗ operands m ρ c
    ∗ (∃ g, holds c cc0_stg4_0 g) ∗ (∃ g, holds c cc0_scratch0 g) ∗ (∃ g, holds c cc0_scratch1 g))

def runPost (c : Dev nD) : sProp 𝕄 :=
  iprop(owing c 0 ∗ semVal (barCell c) 0 ∗ (bigSep Finset.univ fun k => sendDone c k) ∗ (bigSep Finset.univ fun k => recvDone c k)
    ∗ operands m ρ c ∗ holds c cc0_stg4_0 (outAt m ρ c) ∗ holds c cc0_scratch0 (weights m ρ c) ∗ holds c cc0_scratch1 (experts m ρ c))

set_option maxHeartbeats 4000000 in
theorem run_body (c : Dev nD) (Q : PUnit → sProp 𝕄) :
    iprop(runPre m ρ K c ∗ (runPost m ρ c -∗ Q ⟨⟩))
      ⊢ wpc c (cc0_body xM (Memref.isWhole_whole _) rwM (Memref.isWhole_whole _) idxM (Memref.isWhole_whole _) ewM (Memref.isWhole_whole _)
        outM (Memref.isWhole_whole _) wtM (Memref.isWhole_whole _) ebM (Memref.isWhole_whole _) sendM (Memref.isWhole_whole _) recvM (Memref.isWhole_whole _)
        cc0_scratch4 cc0_scratch5) Q := by
  simp only [cc0_body_eq_skeleton, cc0_body_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel,
    semSignalWord, semWaitWord, Prog.lift, Prog.bind_assoc, Prog.bind_op, Prog.bind_ret, Prog.pure_eq_ret, wp_deviceId]
  unfold runPre kits slots operands
  rw [bigSep_fin7, bigSep_fin7, bigSep_fin7, bigSep_fin7, bigSep_fin7]
  iintro ⟨⟨#HR, #Hlev, HO, ⟨HB, ⟨T0, T1, T2, T3, T4, T5, T6⟩, ⟨S0, S1, S2, S3, S4, S5, S6⟩, ⟨R0, R1, R2, R3, R4, R5, R6⟩⟩,
    ⟨⟨P0, P1, P2, P3, P4, P5, P6⟩, ⟨V0, V1, V2, V3, V4, V5, V6⟩⟩, ⟨Hx, Hrw, Hidx, Hew⟩, ⟨%g4, Hout⟩, ⟨%g5, Hwt⟩, ⟨%g6, Heb⟩⟩, Hk⟩
  unfold O₀
  -- the seven signals of the barrier
  iapply (wp_signal_k m ρ K c 0 [1, 2, 3, 4, 5, 6] _ (Fin.ext (k0_dev1_eq c)) _ (by decide)) $$ [HO T0 V0]
  · isplitr; · iexact HR
    isplitl [HO]; · iexact HO
    isplitl [T0] <;> iassumption
  iintro HO
  iapply (wp_signal_k m ρ K c 1 [2, 3, 4, 5, 6] _ (Fin.ext (k0_dev2_eq c)) _ (by decide)) $$ [HO T1 V1]
  · isplitr; · iexact HR
    isplitl [HO]; · iexact HO
    isplitl [T1] <;> iassumption
  iintro HO
  iapply (wp_signal_k m ρ K c 2 [3, 4, 5, 6] _ (Fin.ext (k0_dev3_eq c)) _ (by decide)) $$ [HO T2 V2]
  · isplitr; · iexact HR
    isplitl [HO]; · iexact HO
    isplitl [T2] <;> iassumption
  iintro HO
  iapply (wp_signal_k m ρ K c 3 [4, 5, 6] _ (Fin.ext (k0_dev4_eq c)) _ (by decide)) $$ [HO T3 V3]
  · isplitr; · iexact HR
    isplitl [HO]; · iexact HO
    isplitl [T3] <;> iassumption
  iintro HO
  iapply (wp_signal_k m ρ K c 4 [5, 6] _ (Fin.ext (k0_dev5_eq c)) _ (by decide)) $$ [HO T4 V4]
  · isplitr; · iexact HR
    isplitl [HO]; · iexact HO
    isplitl [T4] <;> iassumption
  iintro HO
  iapply (wp_signal_k m ρ K c 5 [6] _ (Fin.ext (k0_dev6_eq c)) _ (by decide)) $$ [HO T5 V5]
  · isplitr; · iexact HR
    isplitl [HO]; · iexact HO
    isplitl [T5] <;> iassumption
  iintro HO
  iapply (wp_signal_k m ρ K c 6 [] _ (Fin.ext (k0_dev7_eq c)) _ (by decide)) $$ [HO T6 V6]
  · isplitr; · iexact HR
    isplitl [HO]; · iexact HO
    isplitl [T6] <;> iassumption
  iintro HO
  -- the wait for the seven other devices
  iapply (wp_barrier m ρ K c _ (by decide)) $$ [HO HB]
  · isplitr; · iexact HR
    isplitr; · iexact Hlev
    isplitl [HO] <;> iassumption
  rw [bigSep_fin7]
  iintro ⟨HO, HzB, V0, V1, V2, V3, V4, V5, V6⟩
  unfold oweB
  -- the weights and the rounded experts
  iapply (wp_load_all c hz2 (xStg m ρ c)) $$ Hx; iintro Hx
  iapply (wp_load_all c hz2 (rwStg m ρ c)) $$ Hrw; iintro Hrw
  iapply (wp_load_idx m ρ c 0 rfl) $$ Hidx; iintro Hidx
  iapply (wp_load_idx m ρ c 1 rfl) $$ Hidx; iintro Hidx
  iapply (wp_load_all c hz2 g5) $$ Hwt; iintro Hwt
  iapply (wp_store_all c hz2 g5 (weights m ρ c) rfl) $$ Hwt; iintro Hwt
  iapply (wp_load_all c hz3 (ewStg m ρ c)) $$ Hew; iintro Hew
  iapply (wp_load_all c hz3 g6) $$ Heb; iintro Heb
  iapply (wp_store_all c hz3 g6 (experts m ρ c) rfl) $$ Heb; iintro Heb
  ihave Hin : inputs m ρ c $$ [Hx Hwt Heb]
  · unfold inputs
    isplitl [Hx]; · iexact Hx
    isplitl [Hwt] <;> iassumption
  -- the seven chunks of the other devices
  iapply (wp_send_chunk m ρ K c 0 [1, 2, 3, 4, 5, 6] _ rfl (rows_dn c 0) (wrows_dn c 0) rfl rfl _ rfl _ (Fin.ext (k0_dev8_eq c)) _ _ rfl rfl _ _ rfl rfl)
    $$ [HO S0 P0 V0 Hin]
  · isplitr; · iexact HR
    isplitl [HO]; · iexact HO
    isplitl [S0]; · iexact S0
    isplitl [P0]; · iexact P0
    isplitl [V0] <;> iassumption
  iintro ⟨HO, S0, Hin⟩
  iapply (wp_send_chunk m ρ K c 1 [2, 3, 4, 5, 6] _ rfl (rows_dn c 1) (wrows_dn c 1) rfl rfl _ rfl _ (Fin.ext (k0_dev9_eq c)) _ _ rfl rfl _ _ rfl rfl)
    $$ [HO S1 P1 V1 Hin]
  · isplitr; · iexact HR
    isplitl [HO]; · iexact HO
    isplitl [S1]; · iexact S1
    isplitl [P1]; · iexact P1
    isplitl [V1] <;> iassumption
  iintro ⟨HO, S1, Hin⟩
  iapply (wp_send_chunk m ρ K c 2 [3, 4, 5, 6] _ rfl (rows_dn c 2) (wrows_dn c 2) rfl rfl _ rfl _ (Fin.ext (k0_dev10_eq c)) _ _ rfl rfl _ _ rfl rfl)
    $$ [HO S2 P2 V2 Hin]
  · isplitr; · iexact HR
    isplitl [HO]; · iexact HO
    isplitl [S2]; · iexact S2
    isplitl [P2]; · iexact P2
    isplitl [V2] <;> iassumption
  iintro ⟨HO, S2, Hin⟩
  iapply (wp_send_chunk m ρ K c 3 [4, 5, 6] _ rfl (rows_dn c 3) (wrows_dn c 3) rfl rfl _ rfl _ (Fin.ext (k0_dev11_eq c)) _ _ rfl rfl _ _ rfl rfl)
    $$ [HO S3 P3 V3 Hin]
  · isplitr; · iexact HR
    isplitl [HO]; · iexact HO
    isplitl [S3]; · iexact S3
    isplitl [P3]; · iexact P3
    isplitl [V3] <;> iassumption
  iintro ⟨HO, S3, Hin⟩
  iapply (wp_send_chunk m ρ K c 4 [5, 6] _ rfl (rows_dn c 4) (wrows_dn c 4) rfl rfl _ rfl _ (Fin.ext (k0_dev12_eq c)) _ _ rfl rfl _ _ rfl rfl)
    $$ [HO S4 P4 V4 Hin]
  · isplitr; · iexact HR
    isplitl [HO]; · iexact HO
    isplitl [S4]; · iexact S4
    isplitl [P4]; · iexact P4
    isplitl [V4] <;> iassumption
  iintro ⟨HO, S4, Hin⟩
  iapply (wp_send_chunk m ρ K c 5 [6] _ rfl (rows_dn c 5) (wrows_dn c 5) rfl rfl _ rfl _ (Fin.ext (k0_dev13_eq c)) _ _ rfl rfl _ _ rfl rfl)
    $$ [HO S5 P5 V5 Hin]
  · isplitr; · iexact HR
    isplitl [HO]; · iexact HO
    isplitl [S5]; · iexact S5
    isplitl [P5]; · iexact P5
    isplitl [V5] <;> iassumption
  iintro ⟨HO, S5, Hin⟩
  iapply (wp_send_chunk m ρ K c 6 [] _ rfl (rows_dn c 6) (wrows_dn c 6) rfl rfl _ rfl _ (Fin.ext (k0_dev14_eq c)) _ _ rfl rfl _ _ rfl rfl)
    $$ [HO S6 P6 V6 Hin]
  · isplitr; · iexact HR
    isplitl [HO]; · iexact HO
    isplitl [S6]; · iexact S6
    isplitl [P6]; · iexact P6
    isplitl [V6] <;> iassumption
  iintro ⟨HO, S6, Hin⟩
  -- the own chunk
  iapply (wp_read_chunk m ρ c c (k0_off3_eq c) (k0_off4_eq c)) $$ Hin; iintro Hin
  iapply (wp_load_all c hz2 g4) $$ Hout; iintro Hout
  iapply (wp_store_all c hz2 g4 (sumOver m ρ c []) rfl) $$ Hout; iintro Hout
  unfold oweR
  -- the seven parts received
  iapply (wp_add_part m ρ K c 0 _ _ rfl _ rfl rfl (sumOver m ρ c []) (sumOver m ρ c [0]) _ rfl) $$ [HO R0 Hout]
  · isplitr; · iexact HR
    isplitl [HO]; · iexact HO
    isplitl [R0] <;> iassumption
  iintro ⟨HO, R0, Hout⟩
  iapply (wp_add_part m ρ K c 1 _ _ rfl _ rfl rfl (sumOver m ρ c [0]) (sumOver m ρ c [0, 1]) _ rfl) $$ [HO R1 Hout]
  · isplitr; · iexact HR
    isplitl [HO]; · iexact HO
    isplitl [R1] <;> iassumption
  iintro ⟨HO, R1, Hout⟩
  iapply (wp_add_part m ρ K c 2 _ _ rfl _ rfl rfl (sumOver m ρ c [0, 1]) (sumOver m ρ c [0, 1, 2]) _ rfl) $$ [HO R2 Hout]
  · isplitr; · iexact HR
    isplitl [HO]; · iexact HO
    isplitl [R2] <;> iassumption
  iintro ⟨HO, R2, Hout⟩
  iapply (wp_add_part m ρ K c 3 _ _ rfl _ rfl rfl (sumOver m ρ c [0, 1, 2]) (sumOver m ρ c [0, 1, 2, 3]) _ rfl) $$ [HO R3 Hout]
  · isplitr; · iexact HR
    isplitl [HO]; · iexact HO
    isplitl [R3] <;> iassumption
  iintro ⟨HO, R3, Hout⟩
  iapply (wp_add_part m ρ K c 4 _ _ rfl _ rfl rfl (sumOver m ρ c [0, 1, 2, 3]) (sumOver m ρ c [0, 1, 2, 3, 4]) _ rfl) $$ [HO R4 Hout]
  · isplitr; · iexact HR
    isplitl [HO]; · iexact HO
    isplitl [R4] <;> iassumption
  iintro ⟨HO, R4, Hout⟩
  iapply (wp_add_part m ρ K c 5 _ _ rfl _ rfl rfl (sumOver m ρ c [0, 1, 2, 3, 4]) (sumOver m ρ c [0, 1, 2, 3, 4, 5]) _ rfl) $$ [HO R5 Hout]
  · isplitr; · iexact HR
    isplitl [HO]; · iexact HO
    isplitl [R5] <;> iassumption
  iintro ⟨HO, R5, Hout⟩
  iapply (wp_add_part m ρ K c 6 _ _ rfl _ rfl rfl (sumOver m ρ c [0, 1, 2, 3, 4, 5]) (sumOver m ρ c [0, 1, 2, 3, 4, 5, 6]) _ rfl) $$ [HO R6 Hout]
  · isplitr; · iexact HR
    isplitl [HO]; · iexact HO
    isplitl [R6] <;> iassumption
  iintro ⟨HO, R6, Hout⟩
  -- the copies end
  iapply (wp_sent_k m ρ K c 0 _ _ rfl _ rfl) $$ [HO S0]
  · isplitr; · iexact HR
    isplitl [HO] <;> iassumption
  iintro ⟨HO, S0⟩
  iapply (wp_sent_k m ρ K c 1 _ _ rfl _ rfl) $$ [HO S1]
  · isplitr; · iexact HR
    isplitl [HO] <;> iassumption
  iintro ⟨HO, S1⟩
  iapply (wp_sent_k m ρ K c 2 _ _ rfl _ rfl) $$ [HO S2]
  · isplitr; · iexact HR
    isplitl [HO] <;> iassumption
  iintro ⟨HO, S2⟩
  iapply (wp_sent_k m ρ K c 3 _ _ rfl _ rfl) $$ [HO S3]
  · isplitr; · iexact HR
    isplitl [HO] <;> iassumption
  iintro ⟨HO, S3⟩
  iapply (wp_sent_k m ρ K c 4 _ _ rfl _ rfl) $$ [HO S4]
  · isplitr; · iexact HR
    isplitl [HO] <;> iassumption
  iintro ⟨HO, S4⟩
  iapply (wp_sent_k m ρ K c 5 _ _ rfl _ rfl) $$ [HO S5]
  · isplitr; · iexact HR
    isplitl [HO] <;> iassumption
  iintro ⟨HO, S5⟩
  iapply (wp_sent_k m ρ K c 6 _ _ rfl _ rfl) $$ [HO S6]
  · isplitr; · iexact HR
    isplitl [HO] <;> iassumption
  iintro ⟨HO, S6⟩
  iapply (wpc_ret c)
  iapply Hk
  unfold runPost inputs operands
  rw [bigSep_fin7, bigSep_fin7]
  icases Hin with ⟨Hx, Hwt, Heb⟩
  isplitl [HO]; · iexact HO
  isplitl [HzB]; · iexact HzB
  isplitl [S0 S1 S2 S3 S4 S5 S6]
  · isplitl [S0]; · iexact S0
    isplitl [S1]; · iexact S1
    isplitl [S2]; · iexact S2
    isplitl [S3]; · iexact S3
    isplitl [S4]; · iexact S4
    isplitl [S5] <;> iassumption
  isplitl [R0 R1 R2 R3 R4 R5 R6]
  · isplitl [R0]; · iexact R0
    isplitl [R1]; · iexact R1
    isplitl [R2]; · iexact R2
    isplitl [R3]; · iexact R3
    isplitl [R4]; · iexact R4
    isplitl [R5] <;> iassumption
  isplitl [Hx Hrw Hidx Hew]
  · isplitl [Hx]; · iexact Hx
    isplitl [Hrw]; · iexact Hrw
    isplitl [Hidx] <;> iassumption
  isplitl [Hout]; · iexact Hout
  isplitl [Hwt] <;> iassumption

end Cert.Moe

end
-- ==== Proof.Slots.lean ====
/-
# The send and the receive buffer as seven slots each

The seven slots of a buffer are disjoint and are all of it, so the buffer can be given away slot by slot and put together
again.
-/
module

public import proofs.«01_k».proof.Proof.Steps

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- An element lies in slot `k` exactly when its first coordinate is `k`. -/
theorem mem_slot (k : Fin 7) (i : S7x256x1024.Idx) : i ∈ (slotR k).set ↔ (i 0).val = k.val := by
  rw [Rect.mem_set_unit]
  constructor
  · intro h
    have h0 := h 0
    have h1 : k.val ≤ (i 0).val := h0.1
    have h2 : (i 0).val < k.val + 1 := h0.2
    omega
  · intro h a
    match a with
    | ⟨0, _⟩ => exact ⟨le_of_eq h.symm, by show (i 0).val < k.val + 1; omega⟩
    | ⟨1, _⟩ => exact ⟨Nat.zero_le _, by show (i 1).val < 0 + 256; have h1 : (i 1).val < 256 := (i 1).isLt; omega⟩
    | ⟨2, _⟩ => exact ⟨Nat.zero_le _, by show (i 2).val < 0 + 1024; have h1 : (i 2).val < 1024 := (i 2).isLt; omega⟩

theorem slots_disjoint (k k' : Fin 7) (h : k ≠ k') : Disjoint (slotR k).set (slotR k').set :=
  Finset.disjoint_left.mpr fun i hi hi' => h (Fin.ext (((mem_slot k i).mp hi).symm.trans ((mem_slot k' i).mp hi')))

theorem slots_cover : Finset.univ.biUnion (fun k : Fin 7 => (slotR k).set) = Finset.univ := by
  ext i
  simp only [Finset.mem_biUnion, Finset.mem_univ, true_and, iff_true]
  exact ⟨⟨(i 0).val, (i 0).isLt⟩, (mem_slot _ i).mpr rfl⟩

theorem send_slot_set (k : Fin 7) : (sendSlot k).view.set = (slotR k).set := (send_set k).trans (View.set_slice_whole _ _)
theorem recv_slot_set (k : Fin 7) : (recvSlot k).view.set = (slotR k).set := (recv_set k).trans (View.set_slice_whole _ _)

/-- A buffer is a family of disjoint parts that cover it, -/
theorem split_family {ℓ : Loc nD τ sig} (P : Fin 7 → Finset (Idx ℓ)) (hd : ∀ k k', k ≠ k' → Disjoint (P k) (P k')) (hc : Finset.univ.biUnion P = Finset.univ) :
    (iprop(∃ f, ℓ ↦{fullShare} f) : sProp 𝕄) ⊢ bigSep Finset.univ fun k => iprop(∃ f, ℓ ↦[P k]{fullShare} f) := by
  have h (f : Buf (Elt F) ℓ) : (ℓ ↦{fullShare} f : sProp 𝕄) = bigSep Finset.univ fun k => ℓ ↦[P k]{fullShare} f := by
    rw [← hc]; exact pointsTo_biUnion Finset.univ P fun k _ k' _ hk => hd k k' hk
  have h' (f : Buf (Elt F) ℓ) : (bigSep Finset.univ fun k => (ℓ ↦[P k]{fullShare} f : sProp 𝕄)) ⊢ bigSep Finset.univ fun k => iprop(∃ f, ℓ ↦[P k]{fullShare} f) :=
    bigSep_mono fun k _ => show (ℓ ↦[P k]{fullShare} f : sProp 𝕄) ⊢ iprop(∃ f, ℓ ↦[P k]{fullShare} f) from by iintro H; iexists f; iexact H
  iintro ⟨%f, H⟩
  ihave H' := (Entails.of_eq (h f)) $$ H
  iapply (h' f)
  iexact H'

/-- and the parts, whatever each holds, are the buffer again. -/
theorem join_family {ℓ : Loc nD τ sig} [Nonempty (Buf (Elt F) ℓ)] (P : Fin 7 → Finset (Idx ℓ)) (hd : ∀ k k', k ≠ k' → Disjoint (P k) (P k')) (hc : Finset.univ.biUnion P = Finset.univ) :
    (bigSep Finset.univ fun k => iprop(∃ f, ℓ ↦[P k]{fullShare} f)) ⊢ (iprop(∃ f, ℓ ↦{fullShare} f) : sProp 𝕄) := by
  have h1 := BI.bigSep_exists_pi (Finset.univ : Finset (Fin 7)) (fun (k : Fin 7) (f : Buf (Elt F) ℓ) => (ℓ ↦[P k]{fullShare} f : sProp 𝕄))
  have h2 (fs : Fin 7 → Buf (Elt F) ℓ) := pointsTo_biUnion_join (Ix := Unit) (Name := ℕ) (U := UU) (Lvl := ℕ) (q := fullShare) Finset.univ P fs (Classical.arbitrary _) fun k _ k' _ hk => hd k k' hk
  rw [hc] at h2
  iintro H
  ihave H' := h1 $$ H
  icases H' with ⟨%fs, H⟩
  ihave H' := (h2 fs) $$ H
  icases H' with ⟨%g, -, H⟩
  iexists g; iexact H

/-- The whole send buffer is its seven slots, and they are it again; -/
theorem send_split (c : Dev nD) :
    (iprop(∃ f, ((c : Thread nD τ).loc cc0_scratch2) ↦{fullShare} f) : sProp 𝕄) ⊢ bigSep Finset.univ fun k => iprop(∃ f, sendPts (F := F) c k f) :=
  split_family (ℓ := (c : Thread nD τ).loc cc0_scratch2) (fun k => (sendSlot k).view.set)
    (fun k k' h => by rw [send_slot_set, send_slot_set]; exact slots_disjoint k k' h)
    ((Finset.biUnion_congr rfl fun k _ => send_slot_set k).trans slots_cover)
theorem send_join (c : Dev nD) :
    (bigSep Finset.univ fun k => iprop(∃ f, sendPts (F := F) c k f)) ⊢ (iprop(∃ f, ((c : Thread nD τ).loc cc0_scratch2) ↦{fullShare} f) : sProp 𝕄) :=
  join_family (ℓ := (c : Thread nD τ).loc cc0_scratch2) (fun k => (sendSlot k).view.set)
    (fun k k' h => by rw [send_slot_set, send_slot_set]; exact slots_disjoint k k' h)
    ((Finset.biUnion_congr rfl fun k _ => send_slot_set k).trans slots_cover)

/-- the receive buffer likewise. -/
theorem recv_split (c : Dev nD) :
    (iprop(∃ f, ((c : Thread nD τ).loc cc0_scratch3) ↦{fullShare} f) : sProp 𝕄) ⊢ bigSep Finset.univ fun k => iprop(∃ f, recvPts (F := F) c k f) :=
  split_family (ℓ := (c : Thread nD τ).loc cc0_scratch3) (fun k => (recvSlot k).view.set)
    (fun k k' h => by rw [recv_slot_set, recv_slot_set]; exact slots_disjoint k k' h)
    ((Finset.biUnion_congr rfl fun k _ => recv_slot_set k).trans slots_cover)
theorem recv_join (c : Dev nD) :
    (bigSep Finset.univ fun k => iprop(∃ f, recvPts (F := F) c k f)) ⊢ (iprop(∃ f, ((c : Thread nD τ).loc cc0_scratch3) ↦{fullShare} f) : sProp 𝕄) :=
  join_family (ℓ := (c : Thread nD τ).loc cc0_scratch3) (fun k => (recvSlot k).view.set)
    (fun k k' h => by rw [recv_slot_set, recv_slot_set]; exact slots_disjoint k k' h)
    ((Finset.biUnion_congr rfl fun k _ => recv_slot_set k).trans slots_cover)

end Cert.Moe

end
-- ==== Proof.Obligation.lean ====
/-
# The body as the pipeline asks for it

The kernel runs at one grid point. Before it a device holds the records, its kits and its four scratch buffers; after it
the scratch buffers again and every semaphore at zero.
-/
module

public import proofs.«01_k».proof.Proof.Body
public import proofs.«01_k».proof.Proof.Slots

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The state around the one grid point -/

/-- What a device starts from besides its buffers. -/
def start (c : Dev nD) : sProp 𝕄 := iprop((∃ K, records m ρ K) ∗ levAts L lv ∗ kits c)

/-- The four scratch buffers, whatever they hold. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

/-- The kernel's own semaphores at zero. -/
def zeros (c : Dev nD) : sProp 𝕄 :=
  iprop((bigSep Finset.univ fun k => semVal (sendCell c k) 0) ∗ bigSep Finset.univ fun k => semVal (recvCell c k) 0)

def Φ₀ (c : Dev nD) : sProp 𝕄 := iprop(start m ρ c ∗ scratch c)
def Φ₁ (c : Dev nD) : sProp 𝕄 := iprop(semVal (barCell c) 0 ∗ zeros c ∗ scratch (F := F) c)

/-- The pipeline's data on device `c`: the arrays at launch, the staging buffers after the point, the state around it and
what is owed. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xStg m ρ c
    | ⟨1, _⟩ => rwStg m ρ c
    | ⟨2, _⟩ => idxStg m ρ c
    | ⟨3, _⟩ => ewStg m ρ c
    | ⟨4, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem fetch_all (w : Fin 5) (hw : w.val < 4) : (cfg0.win w).fetch t0_0 = true := by revert w; decide

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer at contents `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

def bodyPost (c : Dev nD) : sProp 𝕄 :=
  iprop(Φ₁ c ∗ (dats m ρ 0 c).owesAt () t0_0.succ ∗ stg c cc0_stg0_0 (xStg m ρ c) ∗ stg c cc0_stg1_0 (rwStg m ρ c)
    ∗ stg c cc0_stg2_0 (idxStg m ρ c) ∗ stg c cc0_stg3_0 (ewStg m ρ c) ∗ stg c cc0_stg4_0 (outAt m ρ c))

/-- From the pipeline's form to the body's, -/
theorem pre_intro (c : Dev nD) : bodyPre m ρ c ⊢ iprop(∃ K, runPre m ρ K c) := by
  have h0 (d) : (dats m ρ 0 c).before (0 : Fin 5) t0_0 d = xStg m ρ c := by unfold Dat.before; rw [if_pos (fetch_all 0 (by decide))]; rfl
  have h1 (d) : (dats m ρ 0 c).before (1 : Fin 5) t0_0 d = rwStg m ρ c := by unfold Dat.before; rw [if_pos (fetch_all 1 (by decide))]; rfl
  have h2 (d) : (dats m ρ 0 c).before (2 : Fin 5) t0_0 d = idxStg m ρ c := by unfold Dat.before; rw [if_pos (fetch_all 2 (by decide))]; rfl
  have h3 (d) : (dats m ρ 0 c).before (3 : Fin 5) t0_0 d = ewStg m ρ c := by unfold Dat.before; rw [if_pos (fetch_all 3 (by decide))]; rfl
  unfold bodyPre Φ₀ start scratch Dat.owesAt Pipeline.owesWithin
  iintro ⟨⟨⟨⟨%K, HR⟩, Hlev, HK⟩, H0, H1, H2, H3⟩, ⟨%W, %hW, HO⟩, ⟨%d0, %g0, %hg0, Hx⟩, ⟨%d1, %g1, %hg1, Hrw⟩, ⟨%d2, %g2, %hg2, Hidx⟩, ⟨%d3, %g3, %hg3, Hew⟩, ⟨%d4, %g4, -, Hout⟩⟩
  rw [h0] at hg0; rw [h1] at hg1; rw [h2] at hg2; rw [h3] at hg3
  subst hg0 hg1 hg2 hg3
  iexists K
  unfold runPre slots operands owing
  isplitl [HR]; · iexact HR
  isplitl [Hlev]; · iexact Hlev
  isplitl [HO]; · iexists W; iexact HO
  isplitl [HK]; · iexact HK
  isplitl [H2 H3]
  · isplitl [H2]
    · iapply (send_split c); iexact H2
    · iapply (recv_split c); iexact H3
  isplitl [Hx Hrw Hidx Hew]
  · isplitl [Hx]; · iexact Hx
    isplitl [Hrw]; · iexact Hrw
    isplitl [Hidx] <;> iassumption
  isplitl [Hout]; · iexists g4; iexact Hout
  isplitl [H0] <;> iassumption

/-- and back. -/
theorem post_elim (c : Dev nD) : runPost m ρ c ⊢ bodyPost m ρ c := by
  unfold runPost operands owing sendDone recvDone
  rw [bigSep_sep', bigSep_sep']
  iintro ⟨⟨%W, HO⟩, HzB, ⟨HzS, HS⟩, ⟨HzR, HR⟩, ⟨Hx, Hrw, Hidx, Hew⟩, Hout, Hwt, Heb⟩
  unfold bodyPost Φ₁ zeros scratch Dat.owesAt Pipeline.owesWithin
  isplitl [HzB HzS HzR HS HR Hwt Heb]
  · isplitl [HzB]; · iexact HzB
    isplitl [HzS HzR]
    · isplitl [HzS] <;> iassumption
    isplitl [Hwt]; · iexists _; iexact Hwt
    isplitl [Heb]; · iexists _; iexact Heb
    isplitl [HS]
    · iapply (send_join c); iexact HS
    · iapply (recv_join c); iexact HR
  isplitl [HO]
  · iexists W
    isplitr; · ipureintro; exact fun _ _ => Or.inl trivial
    iexact HO
  isplitl [Hx]
  · iexists _; isplitr; · (ipureintro; rfl)
    iexact Hx
  isplitl [Hrw]
  · iexists _; isplitr; · (ipureintro; rfl)
    iexact Hrw
  isplitl [Hidx]
  · iexists _; isplitr; · (ipureintro; rfl)
    iexact Hidx
  isplitl [Hew]
  · iexists _; isplitr; · (ipureintro; rfl)
    iexact Hew
  iexists _; isplitr; · (ipureintro; rfl)
  iexact Hout

set_option maxRecDepth 40000 in
/-- The obligation of the one grid point, on every device. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wpc c (cc0_body xM (Memref.isWhole_whole _) rwM (Memref.isWhole_whole _) idxM (Memref.isWhole_whole _) ewM (Memref.isWhole_whole _)
        outM (Memref.isWhole_whole _) wtM (Memref.isWhole_whole _) ebM (Memref.isWhole_whole _) sendM (Memref.isWhole_whole _) recvM (Memref.isWhole_whole _)
        cc0_scratch4 cc0_scratch5) (fun _ => bodyPost m ρ c)
  iintro H
  ihave H' := (pre_intro m ρ c) $$ H
  icases H' with ⟨%K, H⟩
  iapply (run_body m ρ K c fun _ => bodyPost m ρ c)
  isplitl [H]; · iexact H
  iintro H
  iapply (post_elim m ρ c); iexact H

end Cert.Moe

end
-- ==== Proof.Deal.lean ====
/-
# The launch's tokens, dealt to the devices

The launch makes, for every cell, its state at round 0, one place and the tokens of its duties. A token belongs with the
device that pays the duty, so the tokens of a barrier cell go `k + 1` devices back and those of a receive cell `k + 1`
devices back as well: both are a shift of the mesh.
-/
module

public import proofs.«01_k».proof.Proof.Obligation

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## What is made at launch -/

theorem ownSemFacts : Pipeline.OwnSemFacts cfg0.spec osem := by decide

/-- Every cell of the protocol on every device. -/
def allCells : Finset (GSem nD τ sig) := Finset.univ.map ⟨kcell, kcell_injective⟩

/-- A device's duties: the seven of its barrier, then one for each send and each receive cell. -/
abbrev tokOf (cj : Dev nD × (Fin 7 ⊕ (Fin 7 ⊕ Fin 7))) : GSem nD τ sig × ℕ × Fin 7 := match cj.2 with
  | .inl k => (barCell cj.1, 0, k) | .inr j => (((cj.1 : Thread nD τ), osem j), 0, 0)

theorem tokOf_injective : Function.Injective tokOf := by
  rintro ⟨c, j⟩ ⟨c', j'⟩ h
  have h1 : c = c' := by
    have h := congrArg (fun x : GSem nD τ sig × ℕ × Fin 7 => x.1.1.1) h
    rcases j with j | j <;> rcases j' with j' | j' <;> exact h
  subst h1
  rcases j with j | j <;> rcases j' with j' | j'
  · exact congrArg (fun k => (c, Sum.inl k)) (congrArg (fun x : GSem nD τ sig × ℕ × Fin 7 => x.2.2) h)
  · have h := congrArg (fun x : GSem nD τ sig × ℕ × Fin 7 => x.1.2) h
    rcases j' with j' | j' <;> cases h
  · have h := congrArg (fun x : GSem nD τ sig × ℕ × Fin 7 => x.1.2) h
    rcases j with j | j <;> cases h
  · exact congrArg (fun k => (c, Sum.inr k)) (osem_injective (congrArg (fun x : GSem nD τ sig × ℕ × Fin 7 => x.1.2) h))

def allToks : Finset (GSem nD τ sig × ℕ × Fin 7) := Finset.univ.map ⟨tokOf, tokOf_injective⟩

/-- The ghost state at launch: the pipeline's and the protocol's. -/
def u₀ : UU := (initOf (Pipeline.cells cfgs cellOf_inj) (Pipeline.launchToks cfgs cellOf_inj), initOf allCells allToks)

/-- The duty tokens of device `c`'s own cells. -/
def toks (c : Dev nD) : sProp 𝕄 :=
  iprop((bigSep Finset.univ fun k => dutyTok ER (barCell c) 0 k) ∗ (bigSep Finset.univ fun k => dutyTok ER (sendCell c k) 0 0)
    ∗ bigSep Finset.univ fun k => dutyTok ER (recvCell c k) 0 0)

/-- The duty tokens device `c` pays with. -/
def payToks (c : Dev nD) : sProp 𝕄 :=
  iprop((bigSep Finset.univ fun k => dutyTok ER (barCell (up c k)) 0 k) ∗ (bigSep Finset.univ fun k => dutyTok ER (sendCell c k) 0 0)
    ∗ bigSep Finset.univ fun k => dutyTok ER (recvCell (dn c k) k) 0 0)

/-- What the launch makes for device `c`, -/
def G (c : Dev nD) : sProp 𝕄 :=
  iprop((bigSep Finset.univ fun j : CIx => roundState ER (sched m ρ) (kcell (c, j)) 0)
    ∗ (bigSep Finset.univ fun j : CIx => iprop(atPos ER (kcell (c, j)) 0 ∅ 0 ∗ reached ER (kcell (c, j)) 0)) ∗ toks c)
/-- and what it starts from: the records, its places, and the tokens it pays with. -/
def G' (c : Dev nD) : sProp 𝕄 :=
  iprop((∃ K, records m ρ K) ∗ (bigSep Finset.univ fun j : CIx => atPos ER (kcell (c, j)) 0 ∅ 0) ∗ payToks c)

theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun j : CIx => Φ (kcell (c, j)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [BI.bigSep_univ_sum, BI.bigSep_univ_sum]; rfl
  iintro HX
  imod (Rounds.fund ER (sched m ρ) allCells allToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

omit [FloatOps F] in
/-- A family over a device's cells is the barrier's member, the send cells' and the receive cells'. -/
theorem bigSep_cells (Φ : CIx → sProp 𝕄) : bigSep Finset.univ Φ
    = iprop(Φ (.inl ()) ∗ (bigSep Finset.univ fun k => Φ (.inr (.inl k))) ∗ bigSep Finset.univ fun k => Φ (.inr (.inr k))) := by
  rw [BI.bigSep_univ_sum, BI.bigSep_univ_sum, bigSep_univ_eq_bigSepL [()] (by decide) (by decide)]; rfl

omit [FloatOps F] in
theorem ownSems0_eq (c : Dev nD) : (Pipeline.ownSems0 (Ix := Unit) (Name := ℕ) (U := UU) (Lvl := ℕ) (Val := Elt F) (τ := τ) osem c : sProp 𝕄) = zeros c := by
  unfold Pipeline.ownSems0 zeros; rw [BI.bigSep_univ_sum]; rfl
omit [FloatOps F] in
/-- The barrier's semaphore is the one that outlives the kernel. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- On one device, the cells' states become invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun j : CIx => iprop(∃ κ : ℕ, cellInv ER (sched m ρ) κ (kcell (c, j))))
          ∗ (bigSep Finset.univ fun j : CIx => iprop(atPos ER (kcell (c, j)) 0 ∅ 0 ∗ reached ER (kcell (c, j)) 0)) ∗ toks c) := by
  have hz : iprop(zeros (F := F) c ∗ semVal (barCell c) 0) ⊢ (bigSep Finset.univ fun j : CIx => semVal (kcell (c, j)) 0 : sProp 𝕄) := by
    unfold zeros
    rw [bigSep_cells]
    iintro ⟨⟨HS, HV⟩, HB⟩
    isplitl [HB]; · iexact HB
    isplitl [HS] <;> iassumption
  have hi : iprop((bigSep Finset.univ fun j : CIx => semVal (kcell (c, j)) 0) ∗ bigSep Finset.univ fun j : CIx => roundState ER (sched m ρ) (kcell (c, j)) 0)
      ⊢ (|={Set.univ}=> bigSep Finset.univ fun j : CIx => iprop(∃ κ : ℕ, cellInv ER (sched m ρ) κ (kcell (c, j))) : sProp 𝕄) := by
    rw [← bigSep_sep']
    exact (bigSep_mono fun j _ => (Rounds.body_intro ER (sched m ρ) (kcell (c, j))).trans inv_alloc).trans (bigSep_fupd _ _)
  rw [ownSems0_eq, unscopedSems0_eq]
  unfold G
  iintro ⟨Hos, Hus, Hst, Hat, Htok⟩
  ihave Hv := hz $$ [Hos Hus]
  · isplitl [Hos] <;> iassumption
  imod hi $$ [Hv Hst] with Hinv
  · isplitl [Hv] <;> iassumption
  imodintro
  isplitl [Hinv]; · iexact Hinv
  isplitl [Hat] <;> iassumption

/-! ## The tokens change hands -/

omit [FloatOps F] in
/-- A family over devices and shifts, read at `up c k` or at `dn c k` instead of `c`. -/
theorem shift_up (Φ : Dev nD → Fin 7 → sProp 𝕄) : (bigSep Finset.univ fun c => bigSep Finset.univ fun k => Φ c k)
    = bigSep Finset.univ fun c => bigSep Finset.univ fun k => Φ (up c k) k := by
  rw [BI.bigSep_univ_comm, BI.bigSep_univ_comm (fun c k => Φ (up c k) k)]
  exact bigSep_congr fun k _ => BI.bigSep_univ_equiv (shift k) fun c => Φ c k
omit [FloatOps F] in
theorem shift_dn (Φ : Dev nD → Fin 7 → sProp 𝕄) : (bigSep Finset.univ fun c => bigSep Finset.univ fun k => Φ c k)
    = bigSep Finset.univ fun c => bigSep Finset.univ fun k => Φ (dn c k) k := by
  rw [BI.bigSep_univ_comm, BI.bigSep_univ_comm (fun c k => Φ (dn c k) k)]
  exact bigSep_congr fun k _ => BI.bigSep_univ_equiv (shift k).symm fun c => Φ c k

omit [FloatOps F] in
theorem toks_around : (bigSep Finset.univ fun c : Dev nD => (toks c : sProp 𝕄)) = bigSep Finset.univ fun c : Dev nD => payToks c := by
  unfold toks payToks
  rw [bigSep_sep', bigSep_sep', bigSep_sep', bigSep_sep', shift_up fun c k => dutyTok ER (barCell c) 0 k,
    shift_dn fun c k => dutyTok ER (recvCell c k) 0 0]

omit [FloatOps F] in
/-- What can be copied goes to every member of a family. -/
theorem spread {I : Type} [DecidableEq I] (S : Finset I) (R : sProp 𝕄) [BI.Persistent R] (Φ : I → sProp 𝕄) :
    iprop(R ∗ bigSep S Φ) ⊢ bigSep S fun i => iprop(R ∗ Φ i) :=
  (sep_mono_left (BI.bigSep_of_persistent S R)).trans (Entails.of_eq (bigSep_sep' S (fun _ => R) Φ).symm)

/-- The invariants get names, the records go to every device, and the tokens to those who pay with them. -/
theorem regroup :
    (bigSep Finset.univ fun c : Dev nD => iprop((bigSep Finset.univ fun j : CIx => iprop(∃ κ : ℕ, cellInv ER (sched m ρ) κ (kcell (c, j))))
          ∗ (bigSep Finset.univ fun j : CIx => iprop(atPos ER (kcell (c, j)) 0 ∅ 0 ∗ reached ER (kcell (c, j)) 0)) ∗ toks c) : sProp 𝕄)
      ⊢ bigSep Finset.univ (G' m ρ) := by
  rw [bigSep_sep', bigSep_sep', ← bigSep_univ_prod (fun cj : Dev nD × CIx => iprop(∃ κ : ℕ, cellInv ER (sched m ρ) κ (kcell cj))),
    bigSep_congr (s := Finset.univ) (fun (c : Dev nD) _ => bigSep_sep' Finset.univ (fun j : CIx => (atPos ER (kcell (c, j)) 0 ∅ 0 : sProp 𝕄)) (fun j => reached ER (kcell (c, j)) 0)),
    bigSep_sep', ← bigSep_univ_prod (fun cj : Dev nD × CIx => (reached ER (kcell cj) 0 : sProp 𝕄)), toks_around]
  iintro ⟨HI, ⟨Hat, #HR⟩, Htok⟩
  ihave HK := (BI.bigSep_exists_pi Finset.univ (fun (cj : Dev nD × CIx) (κ : ℕ) => (cellInv ER (sched m ρ) κ (kcell cj) : sProp 𝕄))) $$ HI
  icases HK with ⟨%K, #HI⟩
  have hG : (bigSep Finset.univ fun c : Dev nD => iprop(records m ρ K ∗ (bigSep Finset.univ fun j : CIx => atPos ER (kcell (c, j)) 0 ∅ 0) ∗ payToks c) : sProp 𝕄)
      ⊢ bigSep Finset.univ (G' m ρ) := by
    have hc (c : Dev nD) : (iprop(records m ρ K ∗ (bigSep Finset.univ fun j : CIx => atPos ER (kcell (c, j)) 0 ∅ 0) ∗ payToks c) : sProp 𝕄) ⊢ G' m ρ c := by
      unfold G'
      iintro ⟨HR, Hat, Ht⟩
      isplitl [HR]; · iexists K; iexact HR
      isplitl [Hat] <;> iassumption
    exact bigSep_mono fun c _ => hc c
  iapply hG
  iapply (spread Finset.univ (records m ρ K) fun c : Dev nD => iprop((bigSep Finset.univ fun j : CIx => atPos ER (kcell (c, j)) 0 ∅ 0) ∗ payToks c))
  isplitr
  · unfold records; isplitl; · iexact HI
    iexact HR
  · rw [bigSep_sep']; isplitl [Hat] <;> iassumption

/-- The same for the whole mesh at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit: what the devices owe a cell, summed over the mesh -/

theorem bar_ne_recv (c d : Dev nD) (k : Fin 7) : barCell c ≠ recvCell d k := fun h => by cases congrArg Prod.snd h

theorem oweR_bar (c d : Dev nD) : ∀ ks, oweR d ks (barCell c) () = 0
  | [] => rfl
  | k :: ks => by
    rw [oweR, Pi.add_apply, Finsupp.add_apply, oweR_bar c d ks, tallyAt_ne_cell (bar_ne_recv c _ k)]; rfl

theorem oweR_recv (c d : Dev nD) (k : Fin 7) : ∀ ks, oweR d ks (recvCell c k) () = if d = up c k then ks.count k * N else 0
  | [] => by rw [List.count_nil, Nat.zero_mul, ite_self]; rfl
  | k' :: ks => by
    rw [oweR, Pi.add_apply, Finsupp.add_apply, oweR_recv c d k ks, tallyAt_apply, List.count_cons]
    by_cases hk : k' = k
    · subst hk
      by_cases hd : d = up c k'
      · subst hd; simp only [dn_up, and_self, if_true, beq_self_eq_true, Nat.add_mul, Nat.one_mul]
      · rw [if_neg hd, if_neg hd, if_neg fun h => hd ?_]
        rw [← up_dn d k', ← show c = dn d k' from congrArg (fun g : GSem nD τ sig => g.1.1) h.1]
    · have hne : ¬ (recvCell c k = recvCell (dn d k') k' ∧ () = ()) := fun h => by
        have h' : osem (.inr k) = osem (.inr k') := congrArg Prod.snd h.1
        exact hk (Sum.inr_injective (osem_injective h')).symm
      rw [if_neg hne, if_neg (show ¬ (k' == k) = true from fun h => hk (eq_of_beq h)), Nat.add_zero, Nat.add_zero]

theorem oweB_recv (c d : Dev nD) (k : Fin 7) : ∀ ks, oweB d ks (recvCell c k) () = if d = up c k then N else 0
  | [] => by rw [oweB, oweR_recv]; congr 1; revert k; decide
  | k' :: ks => by
    rw [oweB, Pi.add_apply, Finsupp.add_apply, oweB_recv c d k ks, tallyAt_ne_cell (bar_ne_recv _ c k).symm, Finsupp.zero_apply, Nat.add_zero]

theorem oweB_bar (c d : Dev nD) : ∀ ks, oweB d ks (barCell c) () = (ks.map fun k => if d = dn c k then 1 else 0).sum
  | [] => oweR_bar c d _
  | k :: ks => by
    rw [oweB, Pi.add_apply, Finsupp.add_apply, oweB_bar c d ks, tallyAt_apply, List.map_cons, List.sum_cons, Nat.add_comm]
    congr 1
    by_cases hd : d = dn c k
    · subst hd; rw [up_dn, if_pos ⟨rfl, rfl⟩, if_pos rfl]
    · rw [if_neg hd, if_neg fun h => hd ?_]
      rw [← dn_up d k, ← show c = up d k from congrArg (fun g : GSem nD τ sig => g.1.1) h.1]

/-- A barrier cell is owed one unit for every shift, -/
theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same]
  simp only [O₀, oweB_bar]
  revert c; decide
/-- and a receive cell one slot. -/
theorem launch_recv (c : Dev nD) (k : Fin 7) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => show O₀ d (recvCell c k) () = if d = up c k then N else 0 from oweB_recv c d k _,
    Finset.sum_ite_eq' Finset.univ (up c k) fun _ => N, if_pos (Finset.mem_univ _)]

/-- The semaphores a device waits on with credit from the launch. -/
abbrev wsem : Unit ⊕ Fin 7 → SemLoc sig := fun | .inl _ => .reg barS | .inr k => .dma (recvS k)
theorem wsem_injective : Function.Injective wsem := by
  rintro (a | a) (b | b) h
  · rfl
  · cases h
  · cases h
  · exact congrArg Sum.inr (Sum.inr_injective (osem_injective (a₁ := .inr a) (a₂ := .inr b) h))

omit [FloatOps F] in
theorem creds (c : Dev nD) :
    (Pipeline.launchCred O₀ c : sProp 𝕄) ⊢ iprop(cred (tallyAt (barCell c) () 7) ∗ bigSep Finset.univ fun k => cred (tallyAt (recvCell c k) () N)) := by
  unfold Pipeline.launchCred
  refine (BI.bigSep_subset (Finset.subset_univ (Finset.univ.map ⟨wsem, wsem_injective⟩))).trans ?_
  rw [bigSep_map, BI.bigSep_univ_sum, bigSep_univ_eq_bigSepL [()] (by decide) (by decide)]
  exact BIClass.sep_mono (Entails.of_eq (congrArg cred (launch_bar c))) (bigSep_mono fun k _ => Entails.of_eq (congrArg cred (launch_recv c k)))

end Cert.Moe

end
-- ==== Proof.Run.lean ====
/-
# The run of the whole mesh

From any memory whose counters are zero, every fair execution of the eight devices ends with `outAt` in the result block
of every device, the operands as they were and every counter at zero. This holds for any float values.
-/
module

public import proofs.«01_k».proof.Proof.Deal
public import Idealize.ShloMosaic.Lib.Pipeline.CollectiveSegs

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Into the kernel and out of it -/

theorem share_eq (c : Dev nD) (w : Fin cfg0.W) : (dats m ρ 0 c).share w = fullShare := by unfold Dat.share; split <;> rfl

theorem kits_intro (c : Dev nD) :
    iprop(Pipeline.launchCred O₀ c ∗ (bigSep Finset.univ fun j : CIx => atPos ER (kcell (c, j)) 0 ∅ 0) ∗ payToks c) ⊢ (kits c : sProp 𝕄) := by
  unfold payToks kits barKit sendKit recvKit
  rw [bigSep_cells, bigSep_sep', bigSep_sep', bigSep_sep']
  iintro ⟨Hc, ⟨HaB, HaS, HaV⟩, HtB, HtS, HtV⟩
  ihave Hc' := (creds (F := F) c) $$ Hc
  icases Hc' with ⟨HcB, HcV⟩
  isplitl [HcB HaB]
  · isplitl [HcB] <;> iassumption
  isplitl [HtB]; · iexact HtB
  isplitl [HtS HtV HaS]
  · isplitl [HtS]; · iexact HtS
    isplitl [HtV] <;> iassumption
  isplitl [HcV] <;> iassumption

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold G' start
  iintro ⟨-, Hlev, Hcr, -, HR, Hat, Htok⟩
  ihave HK := (kits_intro (F := F) c) $$ [Hcr Hat Htok]
  · isplitl [Hcr]; · iexact Hcr
    isplitl [Hat] <;> iassumption
  imodintro
  isplitl
  · isplitl [HR]; · iexact HR
    isplitl [Hlev] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch
  iintro ⟨HB, Hz, Hr⟩
  isplitl [HB]; · iexact HB
  isplitl [Hz] <;> iassumption

omit [FloatOps F] in
/-- A semaphore that is none of the protocol's is at level 0, as are those of the operands' and the result's copies. -/
theorem lv_other (c : Dev nD) {sm : SemLoc sig} (h : ∀ j, csem j ≠ sm) : lv ((c : Thread nD τ), sm) () = 0 := by
  dsimp only [lv, cix]; rw [dif_neg fun ⟨j, hj⟩ => h j hj]
theorem stage_sem : ∀ (w : Fin cfg0.W) (s : Fin (cfg0.win w).nbuf) (j : CIx), csem j ≠ .dma ((cfg0.win w).sem s) := by
  intro w; fin_cases w <;> decide

theorem waits (c : Dev nD) : (levAts L lv : sProp 𝕄) ⊢ Pipeline.cellsWaits cfgs (dats m ρ) () 0 c :=
  Pipeline.cellsWaits_intro cfgs (dats m ρ) () 0 c fun w s t =>
    mayWait_low c _ (lv_other c (stage_sem w s)) _ (by
      rcases t with ⟨_ | _, ht⟩
      · exact Or.inl rfl
      · exact Or.inr rfl)

/-! ## The run -/

/-- What window `w`'s array holds on device `c` after the run. -/
def finalA (c : Dev nD) (w : Fin cfg0.W) : Buf (Elt F) ((cfg0.win w).arr.view.loc (c : Thread nD τ)) := (dats m ρ 0 c).arrAt w cfg0.N

def Done : PUnit × MemSt nD τ sig (Elt F) → Prop := fun r =>
  ∀ c : Dev nD, ∀ w : Fin cfg0.W, r.2.mem ((cfg0.win w).arr.view.loc (c : Thread nD τ)) = finalA m ρ c w

set_option maxRecDepth 40000 in
/-- Every fair execution of the mesh ends, with every array at `finalA` and every counter at zero. -/
theorem run_main : θ_run defs (onTc (τ := τ) (main (F := F))) (s₀ m ρ) (fun r => Done m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands after the run hold what they held. -/
theorem finalA_in (c : Dev nD) (w : Fin cfg0.W) (hw : (cfg0.win w).isOut = false) :
    finalA m ρ c w = (s₀ m ρ).mem ((cfg0.win w).arr.view.loc (c : Thread nD τ)) :=
  (dats (F := F) m ρ 0 c).arrAt_in w hw _

end Cert.Moe

end
-- ==== Proof.Frames.lean ====
/-
# The frames

Each program ends without fault, with its arguments unchanged and every counter at zero. The kernel and the idealized
kernel have the same text, so both frames are readings of the one run of Run.lean.
-/
module

public import proofs.«01_k».proof.Defs
public import proofs.«01_k».proof.Proof.Run
public import proofs.«01_k».proof.Proof.Gen.Kernel
public import proofs.«01_k».proof.Proof.Gen.Pre_valid_experts_KernelIdeal
public import proofs.«01_k».proof.Proof.Gen.Pre_valid_experts_ReferenceIdeal
public import proofs.«01_k».proof.Proof.Gen.ReferenceIdeal.Run

@[expose] public section

noncomputable section

namespace Cert.Moe

open Idealize.ShloMosaic Idealize.ShloMosaic.TcCoe Idealize.SL.Sem

/-- After the run the four arguments of every device hold what they held. -/
theorem args_kept {F : FTy → Type} [FloatOps F] (m : (ℓ : Loc KernelIdeal.nD KernelIdeal.τ KernelIdeal.sig) → Buf (Elt F) ℓ) (ρ : Dev KernelIdeal.nD → PrngReg)
    {r : PUnit × MemSt KernelIdeal.nD KernelIdeal.τ KernelIdeal.sig (Elt F)} (h : Done m ρ r) (c : Dev KernelIdeal.nD) :
    r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)
      ∧ r.2.mem ((c.tc : Thread KernelIdeal.nD KernelIdeal.τ).loc KernelIdeal.main_arg2) = m ((c.tc : Thread KernelIdeal.nD KernelIdeal.τ).loc KernelIdeal.main_arg2)
      ∧ r.2.mem ((c.tc : Thread KernelIdeal.nD KernelIdeal.τ).loc KernelIdeal.main_arg3) = m ((c.tc : Thread KernelIdeal.nD KernelIdeal.τ).loc KernelIdeal.main_arg3) :=
  ⟨(h c (0 : Fin 5)).trans (finalA_in m ρ c (0 : Fin 5) rfl), (h c (1 : Fin 5)).trans (finalA_in m ρ c (1 : Fin 5) rfl),
    (h c (2 : Fin 5)).trans (finalA_in m ρ c (2 : Fin 5) rfl), (h c (3 : Fin 5)).trans (finalA_in m ρ c (3 : Fin 5) rfl)⟩

/-- The run keeps the arguments and ends with every counter at zero. -/
theorem kept {F : FTy → Type} [FloatOps F] (m : (ℓ : Loc KernelIdeal.nD KernelIdeal.τ KernelIdeal.sig) → Buf (Elt F) ℓ) (ρ : Dev KernelIdeal.nD → PrngReg) :
    θ_run (KernelIdeal.defs (F := F)) (onTc (τ := KernelIdeal.τ) (KernelIdeal.main (F := F))) ⟨m, fun _ => 0, ρ⟩ (fun r => (∀ c : Dev KernelIdeal.nD,
      r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)
      ∧ r.2.mem ((c.tc : Thread KernelIdeal.nD KernelIdeal.τ).loc KernelIdeal.main_arg2) = m ((c.tc : Thread KernelIdeal.nD KernelIdeal.τ).loc KernelIdeal.main_arg2)
      ∧ r.2.mem ((c.tc : Thread KernelIdeal.nD KernelIdeal.τ).loc KernelIdeal.main_arg3) = m ((c.tc : Thread KernelIdeal.nD KernelIdeal.τ).loc KernelIdeal.main_arg3))
      ∧ r.2.sem = fun _ => 0) :=
  (θ_run KernelIdeal.defs _ _).mono (fun _ h => ⟨args_kept m ρ h.1, h.2⟩) (run_main m ρ)

theorem frame_ideal : Cert.quiescent_KernelIdeal := fun m ρ _ => kept (F := Ideal) m ρ

/-- The kernel and the idealized kernel have the same body table. -/
theorem defs₀_same {F : FTy → Type} [FloatOps F] : @Kernel.defs₀ F _ Kernel.Gen.facts = @KernelIdeal.defs₀ F _ KernelIdeal.Gen.facts := by
  unfold Kernel.defs₀ KernelIdeal.defs₀
  refine congrArg Defs.onTc ?_
  funext l a
  match l with
  | 0 => rfl

set_option maxRecDepth 40000 in
theorem defs_same {F : FTy → Type} [FloatOps F] : @Kernel.defs F _ Kernel.Gen.facts = @KernelIdeal.defs F _ KernelIdeal.Gen.facts := by
  unfold Kernel.defs KernelIdeal.defs
  rw [defs₀_same]
  rfl

theorem frame_kernel : Cert.quiescent_Kernel := fun m ρ _ => by
  have h := kept (F := Bits) m ρ
  rw [← defs_same] at h
  exact h

/-- The reference's operations write none of its arguments, and it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Moe

end
-- ==== Proof.Arrays.lean ====
/-
# What the arrays hold

The staged operands are the argument buffers, and the result buffer of device `c` ends at `outAt`: every window of the
launch is a whole array, fetched or written back once.
-/
module

public import proofs.«01_k».proof.Proof.Run

@[expose] public section

noncomputable section

namespace Cert.Moe

open Cert.KernelIdeal Cert.KernelIdeal.Gen

open Idealize.ShloMosaic
open Idealize.ShloMosaic.TcCoe

variable {F : FTy → Type} [FloatOps F]
variable (m : (ℓ : Loc nD τ sig) → Buf (Elt F) ℓ) (ρ : Dev nD → PrngReg)

/-- The staged activations are the argument. -/
theorem xStg_eq (c : Dev nD) : xStg m ρ c = m ((c : Thread nD τ).loc main_arg0) :=
  Memref.read_access_unit_zero (Elt F) main_arg0 (funext fun _ => Nat.zero_mul _) _ _
/-- The staged router matrix is the argument. -/
theorem rwStg_eq (c : Dev nD) : rwStg m ρ c = m ((c : Thread nD τ).loc main_arg1) :=
  Memref.read_access_unit_zero (Elt F) main_arg1 (funext fun _ => Nat.zero_mul _) _ _
/-- The staged expert numbers are the argument. -/
theorem idxStg_eq (c : Dev nD) : idxStg m ρ c = m ((c : Thread nD τ).loc main_arg2) :=
  Memref.read_access_unit_zero (Elt F) main_arg2 (funext fun _ => Nat.zero_mul _) _ _
/-- The staged expert matrices are the argument. -/
theorem ewStg_eq (c : Dev nD) : ewStg m ρ c = m ((c : Thread nD τ).loc main_arg3) :=
  Memref.read_access_unit_zero (Elt F) main_arg3 (funext fun _ => Nat.zero_mul _) _ _

/-- The result buffer's one block, written back after the only point, is what the body left. -/
theorem finalA_block (c : Dev nD) : (win0_4.blk (0 : Fin 1)).view.read (Elt F) (finalA m ρ c (4 : Fin 5)) = outAt m ρ c := by
  unfold finalA
  rw [show cfg0.N = ((0 : Fin 1) : Fin cfg0.N).val + 1 from rfl, (dats m ρ 0 c).arrAt_succ (4 : Fin 5) (0 : Fin 1),
    show (cfg0.win (4 : Fin 5)).flush (0 : Fin 1) = true from by decide, if_pos rfl]
  exact View.read_write_univ _ _

/-- The result buffer of device `c` ends at `outAt`. -/
theorem finalA_out (c : Dev nD) : finalA m ρ c (4 : Fin 5) = outAt m ρ c :=
  (Memref.read_access_unit_zero (Elt F) main_v1 (funext fun _ => Nat.zero_mul _) _ _).symm.trans (finalA_block m ρ c)

end Cert.Moe

end
-- ==== Proof.Mixture.lean ====
/-
# The mixture of experts, element by element

The mathematics both programs compute, over the extended reals. A row of the activations is scored against the 64
experts; the softmax of the scores gives the row's probabilities; the row names two experts, whose probabilities divided
by their sum weight the row's products with the two experts' matrices.

`mixture` states it with the two experts a row names; `mixture_eq_sum` states that the sum over all 64 experts, each
product scaled by what the row gives that expert, is the same.
-/
module

public import Idealize.ShloMosaic.Lib.Pointwise

@[expose] public section

noncomputable section

namespace Cert.Moe

open Idealize.ShloMosaic

/-- Arrays over the extended reals and arrays of expert numbers, by their extents. -/
abbrev Mat (a b : Nat) : Type := (⟨2, ![a, b]⟩ : Shape).Idx → EReal
abbrev Stack (a b c : Nat) : Type := (⟨3, ![a, b, c]⟩ : Shape).Idx → EReal
abbrev Names (a b : Nat) : Type := (⟨2, ![a, b]⟩ : Shape).Idx → BitVec 32

variable (x : Mat 2048 512) (rw : Mat 512 64) (idx : Names 2048 2) (W : Stack 64 512 1024)

/-- The score of row `r` for expert `e`. -/
def score (r : Fin 2048) (e : Fin 64) : EReal := ∑ k : Fin 512, x (ix2 r k) * rw (ix2 k e)
/-- The greatest score of row `r`. -/
def top (r : Fin 2048) : EReal := Finset.univ.fold max (Ideal.ofBits .f32 0xFF800000#32) fun e : Fin 64 => score x rw r e
/-- The probability row `r` gives expert `e`: the softmax of the scores. -/
def prob (r : Fin 2048) (e : Fin 64) : EReal :=
  Ideal.div (Ideal.exp (score x rw r e - top x rw r)) (∑ e' : Fin 64, Ideal.exp (score x rw r e' - top x rw r))

/-- Every row names two experts that exist. -/
def Valid : Prop := ∀ (r : Fin 2048) (j : Fin 2), (idx (ix2 r j)).toNat < 64
/-- The expert that row `r` names as its choice `j`. -/
def pick (r : Fin 2048) (j : Fin 2) : Fin 64 := ⟨(idx (ix2 r j)).toNat % 64, Nat.mod_lt _ (by decide)⟩
/-- The weight of choice `j` of row `r`: its probability over the sum of the two. -/
def share (r : Fin 2048) (j : Fin 2) : EReal :=
  Ideal.div (prob x rw r (pick idx r j)) (prob x rw r (pick idx r 0) + prob x rw r (pick idx r 1))
/-- Entry `n` of row `r`'s product with expert `e`. -/
def product (r : Fin 2048) (e : Fin 64) (n : Fin 1024) : EReal := ∑ k : Fin 512, x (ix2 r k) * W (ix3 e k n)
/-- What row `r` gives expert `e`: the weight of each choice that names it. -/
def coef (r : Fin 2048) (e : Fin 64) : EReal :=
  (if pick idx r 0 = e then share x rw idx r 0 else 0) + (if pick idx r 1 = e then share x rw idx r 1 else 0)

/-- Entry `n` of row `r` of the result: the two named experts' products, weighted. -/
def mixture (r : Fin 2048) (n : Fin 1024) : EReal :=
  share x rw idx r 0 * product x W r (pick idx r 0) n + share x rw idx r 1 * product x W r (pick idx r 1) n

/-- An extended real doubled, times another, is the product doubled. -/
theorem double_mul (s y : EReal) : (s + s) * y = s * y + s * y := by
  rcases le_total 0 s with h | h
  · exact EReal.right_distrib_of_nonneg h h
  · have ht : s ≠ ⊤ := fun e => by rw [e] at h; exact absurd h (by simp)
    have hn : -(s + s) = -s + -s := by rw [EReal.neg_add (.inr ht) (.inl ht), sub_eq_add_neg]
    have h0 : 0 ≤ -s := EReal.neg_nonneg.2 h
    rw [← neg_mul_neg (s + s) y, hn, EReal.right_distrib_of_nonneg h0 h0, neg_mul_neg]

/-- The sum over all experts of the products, each scaled by what the row gives the expert, is the mixture. -/
theorem mixture_eq_sum (r : Fin 2048) (n : Fin 1024) :
    ∑ e : Fin 64, product x W r e n * coef x rw idx r e = mixture x rw idx W r n := by
  unfold mixture coef
  by_cases h : pick idx r 0 = pick idx r 1
  · have hs : share x rw idx r 0 = share x rw idx r 1 := by unfold share; rw [h]
    rw [Finset.sum_eq_single (pick idx r 1)]
    · rw [h, hs, if_pos rfl, mul_comm, double_mul]
    · intro e _ he
      rw [h, if_neg (Ne.symm he), if_neg (Ne.symm he), add_zero, mul_zero]
    · intro he; exact absurd (Finset.mem_univ _) he
  · rw [Finset.sum_eq_add (pick idx r 0) (pick idx r 1) h]
    · rw [if_pos rfl, if_neg (Ne.symm h), if_neg h, if_pos rfl, add_zero, zero_add, mul_comm, mul_comm (product _ _ _ _ _)]
    · intro e _ he
      rw [if_neg (Ne.symm he.1), if_neg (Ne.symm he.2), add_zero, mul_zero]
    · intro he; exact absurd (Finset.mem_univ _) he
    · intro he; exact absurd (Finset.mem_univ _) he

end Cert.Moe

end
-- ==== Proof.Router.lean ====
/-
# The kernel's routing weights, element by element

What `probs`, the two gates and the weight buffer hold at a row, in the terms of Proof/Mixture.lean, where every row names
experts that exist: `probs` is `prob`, a gate is the probability of the named expert, and column `e` of device `c`'s weights
is `coef` at expert `8 c + e`.
-/
module

public import proofs.«01_k».proof.Proof.Contents
public import proofs.«01_k».proof.Proof.Mixture

@[expose] public section

set_option maxRecDepth 16384

noncomputable section

namespace Cert.Moe

open Cert.KernelIdeal Cert.KernelIdeal.Gen
open Idealize.ShloMosaic
open Idealize.ShloMosaic.TcCoe

variable (x : Vec Ideal S2048x512 .f32) (w : Vec Ideal S512x64 .f32) (idx : Vec Ideal S2048x2 .i32)

/-! ## The softmax and the gates -/

/-- The softmax payload at an index. -/
theorem probs_apply (r : Fin 2048) (e : Fin 64) : k0_pay1 x w (ix2 r e) = prob x w r e := by
  pointwise [k0_pay1, prob, score, top]

/-- A word that names expert `p` equals the word of expert `e` just where `p = e`. -/
theorem word_eq_iff (a : BitVec 32) (h : a.toNat < 64) (e : Fin 64) :
    a = BitVec.ofNat 32 e.val ↔ (⟨a.toNat % 64, Nat.mod_lt _ (by decide)⟩ : Fin 64) = e := by
  have he := e.isLt
  rw [Fin.ext_iff, ← BitVec.toNat_inj, BitVec.toNat_ofNat]
  show a.toNat = e.val % 2 ^ 32 ↔ a.toNat % 64 = e.val
  omega

/-- A select on an equality of words is a choice. -/
theorem select_eq {α : Type} (a b : BitVec 32) (y z : α) : Scalar.select (IntOp.cmpi .eq a b) y z = if a = b then y else z := by
  by_cases h : a = b
  · rw [if_pos h, h]; simp [IntOp.cmpi, Scalar.select]
  · have hb : (a == b) = false := beq_eq_false_iff_ne.2 h
    rw [if_neg h]; simp [IntOp.cmpi, Scalar.select, hb]

/-- The masked sum of a row over the experts is the row's entry at the named expert. -/
theorem masked_sum (a : BitVec 32) (h : a.toNat < 64) (f : Fin 64 → EReal) :
    ∑ e : Fin 64, Scalar.select (IntOp.cmpi .eq a (BitVec.ofNat 32 e.val)) (f e) 0 = f ⟨a.toNat % 64, Nat.mod_lt _ (by decide)⟩ := by
  simp only [select_eq, word_eq_iff a h]
  rw [Finset.sum_ite_eq, if_pos (Finset.mem_univ _)]

/-- The first gate payload at a row. -/
theorem gate0_apply (i : Vec Ideal S2048x1 .i32) (r : Fin 2048) (h : BitVec.toNat (i (ix2 r 0)) < 64) :
    k0_pay4 x w i (ix2 r 0) = prob x w r ⟨BitVec.toNat (i (ix2 r 0)) % 64, Nat.mod_lt _ (by decide)⟩ := by
  pointwise [k0_pay4, k0_pay2]
  simp only [probs_apply]
  exact masked_sum _ h _

/-- The second gate payload at a row. -/
theorem gate1_apply (i : Vec Ideal S2048x1 .i32) (r : Fin 2048) (h : BitVec.toNat (i (ix2 r 0)) < 64) :
    k0_pay6 (k0_pay1 x w) (iota .tc S1x64 32 [1] iota_S1x64_d1_w32) (k0_pay5 (F := Ideal) i) (ix2 r 0)
      = prob x w r ⟨BitVec.toNat (i (ix2 r 0)) % 64, Nat.mod_lt _ (by decide)⟩ := by
  pointwise [k0_pay6, k0_pay5, k0_pay3]
  simp only [probs_apply]
  exact masked_sum _ h _

/-! ## The weight columns -/

/-- Expert `e` of device `c`'s eight, among the 64. -/
def expertNo (c : Dev nD) (e : Fin 8) : Fin 64 :=
  ⟨8 * c.val + e.val, by have h : c.val < 8 := c.isLt; omega⟩

/-- The word the kernel computes for the number of its expert `e`. -/
theorem expertWord (c : Dev nD) (e : Fin 8) :
    Scalar.addi (Scalar.muli (myWord c) 8#32) (BitVec.ofNat 32 e.val) = BitVec.ofNat 32 (expertNo c e).val := by
  revert c e; decide

/-- A weight column at a row. -/
theorem weightCol_apply (me : BitVec 32) (i0 i1 : IVec S2048x1 32) (g0 g1 gs : FVec Ideal S2048x1 .f32) (e : BitVec 32) (r : Fin 2048) :
    weightCol me i0 i1 g0 g1 gs e (ix2 r 0)
      = (if i0 (ix2 r 0) = Scalar.addi (Scalar.muli me 8#32) e then Ideal.div (g0 (ix2 r 0)) (gs (ix2 r 0)) else 0)
        + (if i1 (ix2 r 0) = Scalar.addi (Scalar.muli me 8#32) e then Ideal.div (g1 (ix2 r 0)) (gs (ix2 r 0)) else 0) := by
  pointwise [weightCol, select_eq]

/-- The eight columns side by side: column `e` is the weight column of expert `e`. -/
theorem weightsOf_apply (me : BitVec 32) (i0 i1 : IVec S2048x1 32) (g0 g1 gs : FVec Ideal S2048x1 .f32) (r : Fin 2048) (e : Fin 8) :
    weightsOf me i0 i1 g0 g1 gs (ix2 r e) = weightCol me i0 i1 g0 g1 gs (BitVec.ofNat 32 e.val) (ix2 r 0) := by
  fin_vals e with he
  all_goals
    pointwise [weightsOf]
    simp only [he, Nat.reduceSub, Nat.reduceLT, ↓reduceDIte]
    try rfl

end Cert.Moe

end
-- ==== Proof.Chunk.lean ====
/-
# One chunk, element by element

Device `c`'s part of the chunk of device `d` is, at row `r` and entry `n`, the sum over the device's eight experts of the
product of row `256 d + r` with the expert, scaled by what the row gives that expert.
-/
module

public import proofs.«01_k».proof.Proof.Router

@[expose] public section

set_option maxRecDepth 16384

noncomputable section

namespace Cert.Moe

open Cert.KernelIdeal Cert.KernelIdeal.Gen
open Idealize.ShloMosaic
open Idealize.ShloMosaic.TcCoe

variable (m : (ℓ : Loc nD τ sig) → Buf (Elt Ideal) ℓ) (ρ : Dev nD → PrngReg)

/-- Row `r` of device `d`'s chunk, among the 2048. -/
def rowNo (d : Dev nD) (r : Fin 256) : Fin 2048 :=
  ⟨256 * d.val + r.val, by have h : d.val < 8 := d.isLt; omega⟩

/-! ## The reads -/

theorem idx0_apply (c : Dev nD) (r : Fin 2048) : idx0 m ρ c (ix2 r 0) = idxStg m ρ c (ix2 r 0) := by
  unfold idx0
  rw [View.readAt_apply]
  simp only [Memref.view_whole, View.read_whole]
  pointwise
theorem idx1_apply (c : Dev nD) (r : Fin 2048) : idx1 m ρ c (ix2 r 0) = idxStg m ρ c (ix2 r 1) := by
  unfold idx1
  rw [View.readAt_apply]
  simp only [Memref.view_whole, View.read_whole]
  pointwise
theorem rowsOf_apply (c d : Dev nD) (r : Fin 256) (k : Fin 512) : rowsOf m ρ c d (ix2 r k) = xStg m ρ c (ix2 (rowNo d r) k) := by
  unfold rowsOf
  rw [View.readAt_apply]
  simp only [Memref.view_whole, View.read_whole]
  pointwise [rowNo]
theorem wrowsOf_apply (c d : Dev nD) (r : Fin 256) (e : Fin 8) : wrowsOf m ρ c d (ix2 r e) = weights m ρ c (ix2 (rowNo d r) e) := by
  unfold wrowsOf
  rw [View.readAt_apply]
  simp only [Memref.view_whole, View.read_whole]
  pointwise [rowNo]
theorem expertOf_apply (c : Dev nD) (e : Fin 8) (k : Fin 512) (n : Fin 1024) :
    expertOf m ρ c e (ix3 0 k n) = ewStg m ρ c (ix3 e k n) := by
  unfold expertOf
  rw [View.readAt_apply]
  simp only [Memref.view_whole, View.read_whole]
  pointwise [experts, k0_pay18]

/-! ## The weights -/

/-- The weight buffer of device `c`: what each row gives each of the device's experts. -/
theorem weights_apply (c : Dev nD) (hv : Valid (idxStg m ρ c)) (r : Fin 2048) (e : Fin 8) :
    weights m ρ c (ix2 r e) = coef (xStg m ρ c) (rwStg m ρ c) (idxStg m ρ c) r (expertNo c e) := by
  have h0 : BitVec.toNat (idx0 m ρ c (ix2 r 0)) < 64 := by rw [idx0_apply]; exact hv r 0
  have h1 : BitVec.toNat (idx1 m ρ c (ix2 r 0)) < 64 := by rw [idx1_apply]; exact hv r 1
  have e2 : k0_pay2 (idx0 m ρ c) (ix2 r 0) = idxStg m ρ c (ix2 r 0) := by rw [← idx0_apply]; pointwise [k0_pay2]
  have e3 : k0_pay3 (idx1 m ρ c) (ix2 r 0) = idxStg m ρ c (ix2 r 1) := by rw [← idx1_apply]; pointwise [k0_pay3]
  have g0 : gate0 m ρ c (ix2 r 0) = prob (xStg m ρ c) (rwStg m ρ c) r (pick (idxStg m ρ c) r 0) := by
    unfold gate0; rw [gate0_apply _ _ _ _ h0]; simp only [idx0_apply, pick]
  have g1 : gate1 m ρ c (ix2 r 0) = prob (xStg m ρ c) (rwStg m ρ c) r (pick (idxStg m ρ c) r 1) := by
    unfold gate1 probs; rw [gate1_apply _ _ _ _ h1]; simp only [idx1_apply, pick]
  have gs : gateSum m ρ c (ix2 r 0) = gate0 m ρ c (ix2 r 0) + gate1 m ρ c (ix2 r 0) := by
    unfold gateSum gate1 k0_pay7; pointwise
  unfold weights
  rw [weightsOf_apply, weightCol_apply, gs, g0, g1, e2, e3, expertWord]
  unfold coef share pick
  simp only [word_eq_iff _ (hv r 0), word_eq_iff _ (hv r 1)]

/-! ## The chunk -/

/-- One expert's term of a chunk. -/
theorem expertTerm_apply (x : Vec Ideal S256x512 .f32) (wt : Vec Ideal S256x8 .f32) (e : Fin 8) (w : Vec Ideal S1x512x1024 .bf16)
    (r : Fin 256) (n : Fin 1024) :
    expertTerm (rounded x) wt e w (ix2 r n) = (∑ k : Fin 512, x (ix2 r k) * w (ix3 0 k n)) * wt (ix2 r e) := by
  pointwise [expertTerm, rounded]

/-- Device `c`'s part of the chunk of device `d`. -/
theorem chunk_apply (c d : Dev nD) (hv : Valid (idxStg m ρ c)) (W : Stack 64 512 1024)
    (hW : ∀ (e : Fin 8) (k : Fin 512) (n : Fin 1024), ewStg m ρ c (ix3 e k n) = W (ix3 (expertNo c e) k n)) (r : Fin 256) (n : Fin 1024) :
    chunk m ρ c d (ix2 r n)
      = ∑ e : Fin 8, product (xStg m ρ c) W (rowNo d r) (expertNo c e) n
          * coef (xStg m ρ c) (rwStg m ρ c) (idxStg m ρ c) (rowNo d r) (expertNo c e) := by
  have h (e : Fin 8) : expertTerm (rounded (rowsOf m ρ c d)) (wrowsOf m ρ c d) e (expertOf m ρ c e) (ix2 r n)
      = product (xStg m ρ c) W (rowNo d r) (expertNo c e) n * coef (xStg m ρ c) (rwStg m ρ c) (idxStg m ρ c) (rowNo d r) (expertNo c e) := by
    rw [expertTerm_apply, wrowsOf_apply, weights_apply m ρ c hv]
    simp only [rowsOf_apply, expertOf_apply, hW, product]
  unfold chunk chunkOf
  simp only [addf_apply, Ideal.addf_def, h, Fin.sum_univ_eight]

end Cert.Moe

end
-- ==== Proof.KernelValue.lean ====
/-
# What the kernel computes

Device `c`'s result, its own part and the seven parts it receives, is at row `r` and entry `n` the mixture at row
`256 c + r`: the eight devices' parts are the sum over the 64 experts.
-/
module

public import proofs.«01_k».proof.Proof.Chunk

@[expose] public section

set_option maxRecDepth 16384

noncomputable section

namespace Cert.Moe

open Cert.KernelIdeal Cert.KernelIdeal.Gen
open Idealize.ShloMosaic
open Idealize.ShloMosaic.TcCoe

variable (m : (ℓ : Loc nD τ sig) → Buf (Elt Ideal) ℓ) (ρ : Dev nD → PrngReg)

/-! ## Sums over the mesh -/

/-- The device `j` places after `c`. -/
def turn (c : Dev nD) (j : Fin 8) : Dev nD := ⟨(c.val + j.val) % 8, Nat.mod_lt _ (by decide)⟩

theorem turn_bijective (c : Dev nD) : Function.Bijective (turn c) := by revert c; decide

/-- A device's own value and those of the seven devices after it are the values of all. -/
theorem sum_turn (c : Dev nD) (f : Dev nD → EReal) :
    f c + f (up c 0) + f (up c 1) + f (up c 2) + f (up c 3) + f (up c 4) + f (up c 5) + f (up c 6) = ∑ d, f d := by
  have h0 : turn c 0 = c := Fin.ext (Nat.mod_eq_of_lt c.isLt)
  have hs (k : Fin 7) : turn c k.succ = up c k := rfl
  rw [← (turn_bijective c).sum_comp f, Fin.sum_univ_eight, h0]
  rfl

/-- The eight experts of each of the eight devices are the 64 experts. -/
theorem sum_experts (g : Fin 64 → EReal) : ∑ d : Dev nD, ∑ e : Fin 8, g (expertNo d e) = ∑ e, g e := by
  rw [← Fintype.sum_prod_type' (f := fun (d : Dev nD) (e : Fin 8) => g (expertNo d e))]
  refine Fintype.sum_bijective (fun p : Dev nD × Fin 8 => expertNo p.1 p.2) ⟨?_, ?_⟩ _ _ fun _ => rfl
  · intro p q h
    have hv : 8 * p.1.val + p.2.val = 8 * q.1.val + q.2.val := congrArg Fin.val h
    have h1 := p.2.isLt
    have h2 := q.2.isLt
    exact Prod.ext (Fin.ext (by omega)) (Fin.ext (by omega))
  · intro e
    have he := e.isLt
    exact ⟨(⟨e.val / 8, by show e.val / 8 < 8; omega⟩, ⟨e.val % 8, by omega⟩), Fin.ext (by show 8 * (e.val / 8) + e.val % 8 = e.val; omega)⟩

/-! ## The result -/

/-- A received part, at an index: the sender's part of the receiver's chunk. -/
theorem sent_up_apply (c : Dev nD) (k : Fin 7) (r : Fin 256) (n : Fin 1024) :
    sent m ρ (up c k) k (ix3 0 r n) = chunk m ρ (up c k) c (ix2 r n) := by
  unfold sent
  rw [dn_up]
  pointwise

/-- Adding a received part, at an index. -/
theorem accum_apply (a : Vec Ideal S256x1024 .f32) (p : Vec Ideal S1x256x1024 .bf16) (r : Fin 256) (n : Fin 1024) :
    accum a p (ix2 r n) = a (ix2 r n) + p (ix3 0 r n) := by
  pointwise [accum]

/-- The result of device `c` is the sum of all devices' parts of its chunk. -/
theorem outAt_apply (c : Dev nD) (r : Fin 256) (n : Fin 1024) : outAt m ρ c (ix2 r n) = ∑ d, (chunk m ρ d c (ix2 r n) : EReal) := by
  unfold outAt sumOver
  simp only [List.foldl_cons, List.foldl_nil, accum_apply, sent_up_apply]
  exact sum_turn c fun d => chunk m ρ d c (ix2 r n)

/-- Where all devices hold the same activations, router matrix and expert numbers, and device `c` the experts `8 c` to
`8 c + 7`, the result of device `c` is the mixture at its rows. -/
theorem outAt_eq (x : Mat 2048 512) (rw : Mat 512 64) (idx : Names 2048 2) (W : Stack 64 512 1024) (hv : Valid idx)
    (hx : ∀ d, xStg m ρ d = x) (hrw : ∀ d, rwStg m ρ d = rw) (hidx : ∀ d, idxStg m ρ d = idx)
    (hW : ∀ (d : Dev nD) (e : Fin 8) (k : Fin 512) (n : Fin 1024), ewStg m ρ d (ix3 e k n) = W (ix3 (expertNo d e) k n))
    (c : Dev nD) (r : Fin 256) (n : Fin 1024) :
    outAt m ρ c (ix2 r n) = mixture x rw idx W (rowNo c r) n := by
  have h (d : Dev nD) : (chunk m ρ d c (ix2 r n) : EReal)
      = ∑ e : Fin 8, product x W (rowNo c r) (expertNo d e) n * coef x rw idx (rowNo c r) (expertNo d e) := by
    rw [chunk_apply m ρ d c (by rw [hidx]; exact hv) W (hW d), hx, hrw, hidx]
  exact (outAt_apply m ρ c r n).trans ((Finset.sum_congr rfl fun d _ => h d).trans
    ((sum_experts fun e => product x W (rowNo c r) e n * coef x rw idx (rowNo c r) e).trans (mixture_eq_sum x rw idx W (rowNo c r) n)))

end Cert.Moe

end
-- ==== Proof.RefValue.lean ====
/-
# What the reference computes

The reference's result, part by part and element by element: its softmax is `prob`, the entries it gathers are those at the
named experts, and its result is the mixture. This is where the expert numbers must name experts that exist.
-/
module

public import proofs.«01_k».proof.Proof.Mixture
public import proofs.«01_k».proof.Proof.Gen.ReferenceIdeal.Run

@[expose] public section

set_option maxRecDepth 16384

noncomputable section

namespace Cert.Moe.Ref

open Cert.Moe Cert.ReferenceIdeal Cert.ReferenceIdeal.Gen
open Idealize.ShloMosaic
open Idealize.ShloMosaic.TcCoe

variable (x : FVec Ideal S2048x512 .f32) (w : FVec Ideal S512x64 .f32) (idx : IVec S2048x2 32) (W : FVec Ideal S64x512x1024 .f32)

/-! ## The parts of the reference's result -/

/-- The scores, their exponentials after the row's greatest is taken away, and the softmax. -/
def scores : FVec Ideal S2048x64 .f32 := Host.dotGeneral dot_S2048x512_S512x64_S2048x64_1_0_0_1_n_n none x w
def exps : FVec Ideal S2048x64 .f32 :=
  Host.exp (subf (scores x w) (broadcastInDim S2048x64 ![0, 1] bcast_S2048x1_S2048x64_0_1 (broadcastInDim S2048x1 ![0] bcast_S2048_S2048x1_0
    (Host.reduce FloatOps.maximumf (scores x w) (constant S_ .f32 0xFF800000#32) reducesTo_S2048x64_S2048_d1 h_S_))))
def softmax : FVec Ideal S2048x64 .f32 :=
  Host.divf (exps x w) (broadcastInDim S2048x64 ![0, 1] bcast_S2048x1_S2048x64_0_1 (broadcastInDim S2048x1 ![0] bcast_S2048_S2048x1_0
    (Host.reduceAdd (exps x w) (constant S_ .f32 0x00000000#32) reducesTo_S2048x64_S2048_d1 h_S_)))

/-- The experts the rows name as their choice `j`, a number below zero counted from the end. -/
def column (j : Nat) (h : S2048x2.Slices ![0, j] S2048x1) : IVec S2048 32 :=
  shapeCast S2048 (extractStridedSlice S2048x1 ![0, j] idx h) shapeCasts_S2048x1_S2048
def wrapped (n : BitVec 32) (v : IVec S2048 32) : IVec S2048x1 32 :=
  broadcastInDim S2048x1 ![0] bcast_S2048_S2048x1_0
    (select (cmpi .slt v (broadcastInDim S2048 ![] bcast_S_S2048 (constantI S_ 32 0#32)))
      (addi v (broadcastInDim S2048 ![] bcast_S_S2048 (constantI S_ 32 n))) v)

/-- The probabilities of the experts `v` names, one per row, and the rows' products with those experts. -/
def gates (v : IVec S2048 32) : FVec Ideal S2048 .f32 :=
  Host.gather gather_S2048x64_S2048x2_S2048_n_01_n_n_01_1_11 (softmax x w)
    (concatenate S2048x2 1 [⟨S2048x1, wrapped 2048#32 (iotaInDim S2048 32 0)⟩, ⟨S2048x1, wrapped 64#32 v⟩] concatenates_S2048x1_S2048x1_S2048x2_d1)
def products (v : IVec S2048 32) : FVec Ideal S2048x1024 .f32 :=
  Host.dotGeneral dot_S2048x512_S2048x512x1024_S2048x1024_1_1_n_2_0_0 none x
    (Host.gather gather_S64x512x1024_S2048x1_S2048x512x1024_12_0_n_n_0_1_15121024 W (wrapped 64#32 v))

/-- A weight per row, times a matrix, row by row. -/
def scaled (g : FVec Ideal S2048 .f32) (y : FVec Ideal S2048x1024 .f32) : FVec Ideal S2048x1024 .f32 :=
  mulf (broadcastInDim S2048x1024 ![0, 1] bcast_S2048x1_S2048x1024_0_1 (broadcastInDim S2048x1 ![0] bcast_S2048_S2048x1_0 g)) y

/-- The reference's result, of the two columns of expert numbers. -/
def resultOf (v0 v1 : IVec S2048 32) : FVec Ideal S2048x1024 .f32 :=
  addf (scaled (Host.divf (gates x w v0) (addf (gates x w v0) (gates x w v1))) (products x W v0))
    (scaled (Host.divf (gates x w v1) (addf (gates x w v0) (gates x w v1))) (products x W v1))
def result : FVec Ideal S2048x1024 .f32 :=
  resultOf x w W (column idx 0 slices_S2048x2_S2048x1_0_0) (column idx 1 slices_S2048x2_S2048x1_0_1)

/-- The run's result is these parts put together. -/
theorem res_eq (m : (ℓ : Loc nD τ sig) → Buf (Elt Ideal) ℓ) (c : Dev nD) :
    Value.res_main_v68 m c = result (m ((c : Thread nD τ).loc main_arg0)) (m ((c : Thread nD τ).loc main_arg1))
      (m ((c : Thread nD τ).loc main_arg2)) (m ((c : Thread nD τ).loc main_arg3)) := by
  unfold Value.res_main_v68 result resultOf scaled products gates wrapped column softmax exps scores
  rfl

/-! ## The parts at an index -/

/-- The softmax. -/
theorem softmax_apply (r : Fin 2048) (e : Fin 64) : softmax x w (ix2 r e) = prob x w r e := by
  pointwise [softmax, exps, scores, prob, score, top]

/-- Column 0 and column 1 of the expert numbers. -/
theorem column0_apply (r : Fin 2048) : column idx 0 slices_S2048x2_S2048x1_0_0 (ix1 r) = idx (ix2 r 0) := by
  pointwise [column]
theorem column1_apply (r : Fin 2048) : column idx 1 slices_S2048x2_S2048x1_0_1 (ix1 r) = idx (ix2 r 1) := by
  pointwise [column]

/-- A number that is not negative is not counted from the end. -/
theorem wrapped_apply (n : BitVec 32) (v : IVec S2048 32) (r : Fin 2048) (h : (v (ix1 r)).toNat < 2 ^ 31) :
    wrapped n v (ix2 r 0) = v (ix1 r) := by
  pointwise [wrapped]
  have hs : IntOp.cmpi .slt (v (ix1 r)) 0#32 = 0#1 := by
    have hn : ¬ (v (ix1 r)).slt 0#32 = true := by
      rw [BitVec.slt_iff_toInt_lt, BitVec.toInt_eq_toNat_of_lt (by omega)]
      simp
    simp [IntOp.cmpi, hn]
  rw [hs]; rfl

/-- An entry gathered by row and column, where both are in range. -/
theorem gather_entry (P : FVec Ideal S2048x64 .f32) (ix : IVec S2048x2 32) (r : Fin 2048) (a : Fin 2048) (e : Fin 64)
    (ha : (ix (ix2 r 0)).toInt.toNat = a.val) (he : (ix (ix2 r 1)).toInt.toNat = e.val) :
    Host.gather gather_S2048x64_S2048x2_S2048_n_01_n_n_01_1_11 P ix (ix1 r) = P (ix2 a e) := by
  have hi (j : Fin 2) : gather_S2048x64_S2048x2_S2048_n_01_n_n_01_1_11.siIdx (ix1 r) j = ix2 r j := by
    funext b; apply Fin.ext
    match b with
    | ⟨0, _⟩ => rfl
    | ⟨1, _⟩ => rfl
  have h0 : gather_S2048x64_S2048x2_S2048_n_01_n_n_01_1_11.start (ix1 r) ix 0 = min (ix (ix2 r 0)).toInt.toNat 2047 := by
    rw [← hi 0]; rfl
  have h1 : gather_S2048x64_S2048x2_S2048_n_01_n_n_01_1_11.start (ix1 r) ix 1 = min (ix (ix2 r 1)).toInt.toNat 63 := by
    rw [← hi 1]; rfl
  unfold Host.gather
  refine congrArg P (funext fun d => Fin.ext ?_)
  match d with
  | ⟨0, _⟩ =>
    show gather_S2048x64_S2048x2_S2048_n_01_n_n_01_1_11.start (ix1 r) ix 0 + 0 + 0 = a.val
    rw [h0]; omega
  | ⟨1, _⟩ =>
    show gather_S2048x64_S2048x2_S2048_n_01_n_n_01_1_11.start (ix1 r) ix 1 + 0 + 0 = e.val
    rw [h1]; omega

/-- An entry of the matrices gathered one per row, where the number is in range. -/
theorem gather_expert (ix : IVec S2048x1 32) (r : Fin 2048) (e : Fin 64) (k : Fin 512) (n : Fin 1024)
    (he : (ix (ix2 r 0)).toInt.toNat = e.val) :
    Host.gather gather_S64x512x1024_S2048x1_S2048x512x1024_12_0_n_n_0_1_15121024 W ix (ix3 r k n) = W (ix3 e k n) := by
  have hi : gather_S64x512x1024_S2048x1_S2048x512x1024_12_0_n_n_0_1_15121024.siIdx (ix3 r k n) (0 : Fin 1) = ix2 r 0 := by
    funext b; apply Fin.ext
    match b with
    | ⟨0, _⟩ => rfl
    | ⟨1, _⟩ => rfl
  have h0 : gather_S64x512x1024_S2048x1_S2048x512x1024_12_0_n_n_0_1_15121024.start (ix3 r k n) ix 0 = min (ix (ix2 r 0)).toInt.toNat 63 := by
    rw [← hi]; rfl
  unfold Host.gather
  refine congrArg W (funext fun d => Fin.ext ?_)
  match d with
  | ⟨0, _⟩ =>
    show gather_S64x512x1024_S2048x1_S2048x512x1024_12_0_n_n_0_1_15121024.start (ix3 r k n) ix 0 + 0 + 0 = e.val
    rw [h0]; omega
  | ⟨1, _⟩ => show 0 + 0 + k.val = k.val; omega
  | ⟨2, _⟩ => show 0 + 0 + n.val = n.val; omega

/-- A word below `2 ^ 31` read signed. -/
theorem toInt_toNat (a : BitVec 32) (h : a.toNat < 2 ^ 31) : a.toInt.toNat = a.toNat := by
  rw [BitVec.toInt_eq_toNat_of_lt (by omega)]; rfl

/-- The gate of a row is its probability of the expert that `v` names. -/
theorem gates_apply (v : IVec S2048 32) (r : Fin 2048) (e : Fin 64) (h : (v (ix1 r)).toNat = e.val) :
    gates x w v (ix1 r) = prob x w r e := by
  have he := e.isLt
  have hr := r.isLt
  unfold gates
  rw [gather_entry _ _ r r e, softmax_apply]
  · pointwise
    rw [wrapped_apply _ _ _ (by pointwise; rw [BitVec.toNat_ofNat]; omega)]
    pointwise
    rw [toInt_toNat _ (by rw [BitVec.toNat_ofNat]; omega), BitVec.toNat_ofNat]; omega
  · pointwise
    rw [wrapped_apply _ _ _ (by omega), toInt_toNat _ (by omega), h]

/-- The product of a row with the expert that `v` names. -/
theorem products_apply (v : IVec S2048 32) (r : Fin 2048) (e : Fin 64) (h : (v (ix1 r)).toNat = e.val) (n : Fin 1024) :
    products x W v (ix2 r n) = product x W r e n := by
  have he := e.isLt
  have hg (k : Fin 512) := gather_expert W (wrapped 64#32 v) r e k n
    (by rw [wrapped_apply _ _ _ (by omega), toInt_toNat _ (by omega), h])
  pointwise [products]
  simp only [hg, product]

/-- A scaled matrix. -/
theorem scaled_apply (g : FVec Ideal S2048 .f32) (y : FVec Ideal S2048x1024 .f32) (r : Fin 2048) (n : Fin 1024) :
    scaled g y (ix2 r n) = g (ix1 r) * y (ix2 r n) := by
  pointwise [scaled]

/-- Where every row names experts that exist, the reference's result is the mixture. -/
theorem result_apply (hv : Valid idx) (r : Fin 2048) (n : Fin 1024) : result x w idx W (ix2 r n) = mixture x w idx W r n := by
  have e0 : (column idx 0 slices_S2048x2_S2048x1_0_0 (ix1 r)).toNat = (pick idx r 0).val := by
    rw [column0_apply]; exact (Nat.mod_eq_of_lt (hv r 0)).symm
  have e1 : (column idx 1 slices_S2048x2_S2048x1_0_1 (ix1 r)).toNat = (pick idx r 1).val := by
    rw [column1_apply]; exact (Nat.mod_eq_of_lt (hv r 1)).symm
  unfold result resultOf mixture share
  pointwise
  rw [scaled_apply, scaled_apply, products_apply x W _ r _ e0, products_apply x W _ r _ e1]
  pointwise
  rw [gates_apply x w _ r _ e0, gates_apply x w _ r _ e1]

end Cert.Moe.Ref

end
-- ==== Proof.Precondition.lean ====
/-
# The precondition, read

Where `valid_experts` holds of device `c`'s arguments, every row of its expert numbers names two experts that exist.
-/
module

public import proofs.«01_k».proof.Proof.Mixture
public import proofs.«01_k».proof.Proof.Gen.Pre_valid_experts_KernelIdeal
public import Idealize.ShloMosaic.Lib.ReduceAll

@[expose] public section

noncomputable section

namespace Cert.Moe

open Idealize.ShloMosaic

/-- A word at least 0 and below 64, compared signed, is below 64. -/
theorem lt_of_cmps (a : BitVec 32) (h : IntOp.andi (IntOp.cmpi .sge a 0#32) (IntOp.cmpi .slt a 64#32) = 1#1) : a.toNat < 64 := by
  obtain ⟨h0, h1⟩ := IntOp.andi_eq_one.1 h
  have p0 : (0#32).sle a = true := by
    by_contra hn
    have hb : (0#32).sle a = false := Bool.eq_false_iff.2 hn
    simp [IntOp.cmpi, hb] at h0
  have p1 : a.slt 64#32 = true := by
    by_contra hn
    have hb : a.slt 64#32 = false := Bool.eq_false_iff.2 hn
    simp [IntOp.cmpi, hb] at h1
  rw [BitVec.sle_iff_toInt_le] at p0
  rw [BitVec.slt_iff_toInt_lt] at p1
  have e0 : (0#32).toInt = 0 := by decide
  have e1 : (64#32).toInt = 64 := by decide
  rw [e0] at p0
  rw [e1] at p1
  have hn : a.toInt = (a.toNat : Int) ∨ a.toInt = (a.toNat : Int) - 2 ^ 32 := by
    rw [BitVec.toInt_eq_toNat_cond]; split
    · exact .inl rfl
    · exact .inr rfl
  have hl := a.isLt
  omega

/-- The precondition names experts that exist. -/
theorem valid_of_pre (x : FVec Ideal Pre_valid_experts_KernelIdeal.S2048x512 .f32) (w : FVec Ideal Pre_valid_experts_KernelIdeal.S512x64 .f32)
    (idx : IVec Pre_valid_experts_KernelIdeal.S2048x2 32) (W : FVec Ideal Pre_valid_experts_KernelIdeal.S8x512x1024 .f32)
    (h : Pre_valid_experts_KernelIdeal.fn x w idx W = fun _ => 1#1) : Valid idx := by
  intro r j
  have hs : Subsingleton Pre_valid_experts_KernelIdeal.S_.Idx := ⟨fun a b => funext fun i => i.elim0⟩
  have e := congrFun h (fun i => i.elim0)
  unfold Pre_valid_experts_KernelIdeal.fn at e
  have h1 := Host.reduce_andi_all _ _ _ _ _ e (ix2 r j)
  pointwise at h1
  exact lt_of_cmps _ h1

end Cert.Moe

end
-- ==== Proof.Value.lean ====
/-
# The kernel against the reference

From memories that agree on the arguments, the experts of the whole array cut in eight blocks over the devices, and where
every row names experts that exist, the kernel run in exact arithmetic leaves on device `c` block `c` of the reference's
result: both are the mixture.
-/
module

public import proofs.«01_k».proof.Defs
public import proofs.«01_k».proof.Proof.Frames
public import proofs.«01_k».proof.Proof.Arrays
public import proofs.«01_k».proof.Proof.KernelValue
public import proofs.«01_k».proof.Proof.RefValue
public import proofs.«01_k».proof.Proof.Precondition

@[expose] public section

noncomputable section

namespace Cert.Moe

open Idealize.ShloMosaic Idealize.ShloMosaic.TcCoe Idealize.SL.Sem

/-- An entry of device `c`'s block of the expert matrices. -/
theorem block_experts (c : Fin 8) (W : Stack 64 512 1024) (e : Fin 8) (k : Fin 512) (n : Fin 1024) :
    Layout.block ⟨3, ![8, 512, 1024]⟩ ⟨3, ![64, 512, 1024]⟩ 0 8 c W (by decide) (ix3 e k n) = W (ix3 (expertNo c e) k n) := by
  rw [Layout.block_apply]
  refine congrArg W (funext fun a => Fin.ext ?_)
  match a with
  | ⟨0, _⟩ => show c.val * 8 + e.val = 8 * c.val + e.val; omega
  | ⟨1, _⟩ => rfl
  | ⟨2, _⟩ => rfl

/-- An entry of device `c`'s block of the result. -/
theorem block_result (c : Fin 8) (v : Mat 2048 1024) (r : Fin 256) (n : Fin 1024) :
    Layout.block ⟨2, ![256, 1024]⟩ ⟨2, ![2048, 1024]⟩ 0 8 c v (by decide) (ix2 r n) = v (ix2 (rowNo c r) n) := by
  rw [Layout.block_apply]
  refine congrArg v (funext fun a => Fin.ext ?_)
  match a with
  | ⟨0, _⟩ => show c.val * 256 + r.val = 256 * c.val + r.val; omega
  | ⟨1, _⟩ => rfl

/-- The kernel's result on device `c` is block `c` of the reference's result. -/
theorem outAt_block (m : (ℓ : Loc KernelIdeal.nD KernelIdeal.τ KernelIdeal.sig) → Buf (Elt Ideal) ℓ) (ρ : Dev KernelIdeal.nD → PrngReg)
    (x : Mat 2048 512) (rw : Mat 512 64) (idx : Names 2048 2) (W : Stack 64 512 1024) (hv : Valid idx)
    (hx : ∀ c : Dev KernelIdeal.nD, m ((c.tc : Thread KernelIdeal.nD KernelIdeal.τ).loc KernelIdeal.main_arg0) = x)
    (hrw : ∀ c : Dev KernelIdeal.nD, m ((c.tc : Thread KernelIdeal.nD KernelIdeal.τ).loc KernelIdeal.main_arg1) = rw)
    (hidx : ∀ c : Dev KernelIdeal.nD, m ((c.tc : Thread KernelIdeal.nD KernelIdeal.τ).loc KernelIdeal.main_arg2) = idx)
    (hW : ∀ c : Dev KernelIdeal.nD, m ((c.tc : Thread KernelIdeal.nD KernelIdeal.τ).loc KernelIdeal.main_arg3)
      = Layout.block ⟨3, ![8, 512, 1024]⟩ ⟨3, ![64, 512, 1024]⟩ 0 8 c W) (c : Dev KernelIdeal.nD) :
    outAt m ρ c = Layout.block ⟨2, ![256, 1024]⟩ ⟨2, ![2048, 1024]⟩ 0 8 c (Ref.result x rw idx W) := by
  funext i
  obtain ⟨r, n, rfl⟩ : ∃ (r : Fin 256) (n : Fin 1024), i = ix2 r n := ⟨i 0, i 1, eq_ix2 i⟩
  refine (outAt_eq m ρ x rw idx W hv (fun d => (xStg_eq m ρ d).trans (hx d)) (fun d => (rwStg_eq m ρ d).trans (hrw d))
    (fun d => (idxStg_eq m ρ d).trans (hidx d)) (fun d e k n => ?_) c r n).trans ?_
  · exact (congrFun ((ewStg_eq m ρ d).trans (hW d)) (ix3 e k n)).trans (block_experts d W e k n)
  · exact ((block_result c _ r n).trans (Ref.result_apply x rw idx W hv (rowNo c r) n)).symm

/-- The kernel computes the reference's result. -/
theorem value : Cert.algebraic_KernelIdeal_ReferenceIdeal_pre_valid_experts_KernelIdeal := fun m g m' g' hpre hag => by
  let D : Thread ReferenceIdeal.nD ReferenceIdeal.τ := ((0 : Dev ReferenceIdeal.nD).tc : Thread ReferenceIdeal.nD ReferenceIdeal.τ)
  have hv : Valid (m' (D.loc ReferenceIdeal.main_arg2)) := by
    have h := valid_of_pre _ _ _ _ (hpre 0)
    rwa [(hag 0).2.2.1] at h
  refine ⟨ReferenceIdeal.Value.res_main_v68 m' 0, ?_, ?_⟩
  · refine (θ_run KernelIdeal.defs _ _).mono (fun r h c => ⟨?_, args_kept m g h.1 c⟩) (run_main m g)
    rw [Ref.res_eq]
    exact ((h.1 c (4 : Fin 5)).trans (finalA_out m g c)).trans (outAt_block m g _ _ _ _ hv (fun c => (hag c).1)
      (fun c => (hag c).2.1) (fun c => (hag c).2.2.1) (fun c => (hag c).2.2.2) c)
  · exact (θ_run ReferenceIdeal.defs _ _).mono (fun r h => h 0) (ReferenceIdeal.Value.run m' g')

end Cert.Moe

end
-- ==== Proof.lean ====
/-
# The certificate

The frames are in Proof/Frames.lean, the value in Proof/Value.lean. The pass that idealizes the kernel replaced no
operation, so `preserves` states nothing further.
-/
module

public import proofs.«01_k».proof.Defs
public import proofs.«01_k».proof.Proof.Frames
public import proofs.«01_k».proof.Proof.Value
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Gen.Pre_valid_experts_KernelIdeal
public import proofs.«01_k».proof.Proof.Gen.Pre_valid_experts_ReferenceIdeal

@[expose] public section

noncomputable section

namespace Cert.Proof

open Idealize.ShloMosaic Idealize.SL.Sem

/-- The side conditions of every program and predicate, the frames, the preservation and the value. -/
theorem claim : Cert.Claim := ⟨Cert.Kernel.Gen.facts, Cert.KernelIdeal.Gen.facts, Cert.ReferenceIdeal.Gen.facts,
  Cert.Pre_valid_experts_KernelIdeal.Gen.facts, Cert.Pre_valid_experts_ReferenceIdeal.Gen.facts,
  Cert.Moe.frame_kernel, Cert.Moe.frame_ideal, fun m g _ => Cert.Moe.frame_ideal m g trivial,
  Cert.Moe.frame_reference, fun m g _ => Cert.Moe.frame_reference m g trivial, trivial, Cert.Moe.value⟩

end Cert.Proof

end
